-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S3x256x512 : Shape := ⟨3, ![3, 256, 512]⟩
abbrev S8x128 : Shape := ⟨2, ![8, 128]⟩
abbrev S16x8x128 : Shape := ⟨3, ![16, 8, 128]⟩
abbrev S3 : Shape := ⟨1, ![3]⟩
abbrev S16 : Shape := ⟨1, ![16]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 3
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S256x2048, .f32⟩
  | .local _ .vmem, ⟨3, _⟩ => ⟨S3x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S3x256x512, .bf16⟩
  | .local _ .vmem, ⟨7, _⟩ => ⟨S3x256x512, .bf16⟩
  | .local _ .vmem, ⟨8, _⟩ => ⟨S3x256x512, .bf16⟩
  | .local _ .vmem, ⟨9, _⟩ => ⟨S3x256x512, .bf16⟩
  | .local _ .vmem, ⟨10, _⟩ => ⟨S3x256x512, .bf16⟩
  | .local _ .vmem, ⟨11, _⟩ => ⟨S8x128, .f32⟩
  | .local _ .vmem, ⟨12, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 5 59 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v13 : BitVec 32 := Scalar.subi v2 c1_i32_10
  let v14 : BitVec 32 := Scalar.subi v13 c0_i32_11
  let c32_i32 : BitVec 32 := 32#32
  let v15 : BitVec 32 := Scalar.addi v14 c32_i32
  let c16_i32_12 : BitVec 32 := 16#32
  let v16 : BitVec 32 := Scalar.remsi v15 c16_i32_12
  let c256_i32 : BitVec 32 := 256#32
  let v20 : BitVec 32 := Scalar.muli v16 c256_i32
  let v21 : Index := Scalar.indexCast v20
  let c0 : Index := 0#32
  ![v21.toNat, 0]
def k0_off2 (d0 : Dev nD) (c0_i32_14 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v17 : BitVec 32 := Scalar.addi v2 c1_i32_13
  let v18 : BitVec 32 := Scalar.addi v17 c0_i32_14
  let c16_i32_15 : BitVec 32 := 16#32
  let v19 : BitVec 32 := Scalar.remsi v18 c16_i32_15
  let c256_i32_16 : BitVec 32 := 256#32
  let v24 : BitVec 32 := Scalar.muli v19 c256_i32_16
  let v25 : Index := Scalar.indexCast v24
  let c0_17 : Index := 0#32
  ![v25.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_27 : BitVec 32 := 1#32
  let v35 : BitVec 32 := Scalar.muli v7 c1_i32_27
  let v36 : BitVec 32 := Scalar.addi c0_i32_28 v35
  v36.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_42 : BitVec 32 := 1#32
  let v52 : BitVec 32 := Scalar.muli v5 c1_i32_42
  let v53 : BitVec 32 := Scalar.addi c0_i32_43 v52
  v53.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_57 : BitVec 32 := 1#32
  let v69 : BitVec 32 := Scalar.muli v7 c1_i32_57
  let v70 : BitVec 32 := Scalar.addi c0_i32_58 v69
  v70.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_72 : BitVec 32 := 1#32
  let v86 : BitVec 32 := Scalar.muli v5 c1_i32_72
  let v87 : BitVec 32 := Scalar.addi c0_i32_73 v86
  v87.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_106 : BitVec 32 := 1#32
  let v126 : BitVec 32 := Scalar.muli v5 c1_i32_106
  let v127 : BitVec 32 := Scalar.addi c0_i32_107 v126
  v127.toNat
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_114 : BitVec 32 := 1#32
  let v132 : BitVec 32 := Scalar.muli v7 c1_i32_114
  let v133 : BitVec 32 := Scalar.addi c0_i32_115 v132
  v133.toNat
def k0_dev9 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_137 : BitVec 32 := 1#32
  let v157 : BitVec 32 := Scalar.muli v7 c1_i32_137
  let v158 : BitVec 32 := Scalar.addi c0_i32_138 v157
  v158.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_146 : BitVec 32 := 1#32
  let v163 : BitVec 32 := Scalar.muli v5 c1_i32_146
  let v164 : BitVec 32 := Scalar.addi c0_i32_147 v163
  v164.toNat
def k0_dev11 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_169 : BitVec 32 := 1#32
  let v188 : BitVec 32 := Scalar.muli v5 c1_i32_169
  let v189 : BitVec 32 := Scalar.addi c0_i32_170 v188
  v189.toNat
def k0_dev12 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_178 : BitVec 32 := 1#32
  let v194 : BitVec 32 := Scalar.muli v7 c1_i32_178
  let v195 : BitVec 32 := Scalar.addi c0_i32_179 v194
  v195.toNat
def k0_dev13 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_201 : BitVec 32 := 1#32
  let v219 : BitVec 32 := Scalar.muli v7 c1_i32_201
  let v220 : BitVec 32 := Scalar.addi c0_i32_202 v219
  v220.toNat
def k0_dev14 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_210 : BitVec 32 := 1#32
  let v225 : BitVec 32 := Scalar.muli v5 c1_i32_210
  let v226 : BitVec 32 := Scalar.addi c0_i32_211 v225
  v226.toNat
def k0_dev15 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_244 : BitVec 32 := 1#32
  let v265 : BitVec 32 := Scalar.muli v5 c1_i32_244
  let v266 : BitVec 32 := Scalar.addi c0_i32_245 v265
  v266.toNat
def k0_dev16 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_252 : BitVec 32 := 1#32
  let v271 : BitVec 32 := Scalar.muli v7 c1_i32_252
  let v272 : BitVec 32 := Scalar.addi c0_i32_253 v271
  v272.toNat
def k0_dev17 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_275 : BitVec 32 := 1#32
  let v296 : BitVec 32 := Scalar.muli v7 c1_i32_275
  let v297 : BitVec 32 := Scalar.addi c0_i32_276 v296
  v297.toNat
def k0_dev18 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_284 : BitVec 32 := 1#32
  let v302 : BitVec 32 := Scalar.muli v5 c1_i32_284
  let v303 : BitVec 32 := Scalar.addi c0_i32_285 v302
  v303.toNat
def k0_dev19 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_307 : BitVec 32 := 1#32
  let v327 : BitVec 32 := Scalar.muli v5 c1_i32_307
  let v328 : BitVec 32 := Scalar.addi c0_i32_308 v327
  v328.toNat
def k0_dev20 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_316 : BitVec 32 := 1#32
  let v333 : BitVec 32 := Scalar.muli v7 c1_i32_316
  let v334 : BitVec 32 := Scalar.addi c0_i32_317 v333
  v334.toNat
def k0_dev21 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_339 : BitVec 32 := 1#32
  let v358 : BitVec 32 := Scalar.muli v7 c1_i32_339
  let v359 : BitVec 32 := Scalar.addi c0_i32_340 v358
  v359.toNat
def k0_dev22 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_348 : BitVec 32 := 1#32
  let v364 : BitVec 32 := Scalar.muli v5 c1_i32_348
  let v365 : BitVec 32 := Scalar.addi c0_i32_349 v364
  v365.toNat
def k0_dev23 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_381 : BitVec 32 := 1#32
  let v404 : BitVec 32 := Scalar.muli v5 c1_i32_381
  let v405 : BitVec 32 := Scalar.addi c0_i32_382 v404
  v405.toNat
def k0_dev24 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_401 : BitVec 32 := 1#32
  let v416 : BitVec 32 := Scalar.muli v7 c1_i32_401
  let v417 : BitVec 32 := Scalar.addi c0_i32_402 v416
  v417.toNat
def k0_dev25 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_424 : BitVec 32 := 1#32
  let v441 : BitVec 32 := Scalar.muli v7 c1_i32_424
  let v442 : BitVec 32 := Scalar.addi c0_i32_425 v441
  v442.toNat
def k0_dev26 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_444 : BitVec 32 := 1#32
  let v453 : BitVec 32 := Scalar.muli v5 c1_i32_444
  let v454 : BitVec 32 := Scalar.addi c0_i32_445 v453
  v454.toNat
def k0_dev27 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_467 : BitVec 32 := 1#32
  let v478 : BitVec 32 := Scalar.muli v5 c1_i32_467
  let v479 : BitVec 32 := Scalar.addi c0_i32_468 v478
  v479.toNat
def k0_dev28 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_487 : BitVec 32 := 1#32
  let v490 : BitVec 32 := Scalar.muli v7 c1_i32_487
  let v491 : BitVec 32 := Scalar.addi c0_i32_488 v490
  v491.toNat
def k0_dev29 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_510 : BitVec 32 := 1#32
  let v515 : BitVec 32 := Scalar.muli v7 c1_i32_510
  let v516 : BitVec 32 := Scalar.addi c0_i32_511 v515
  v516.toNat
def k0_dev30 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_530 : BitVec 32 := 1#32
  let v527 : BitVec 32 := Scalar.muli v5 c1_i32_530
  let v528 : BitVec 32 := Scalar.addi c0_i32_531 v527
  v528.toNat
def k0_dev31 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_563 : BitVec 32 := 1#32
  let v567 : BitVec 32 := Scalar.muli v5 c1_i32_563
  let v568 : BitVec 32 := Scalar.addi c0_i32_564 v567
  v568.toNat
def k0_dev32 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_583 : BitVec 32 := 1#32
  let v579 : BitVec 32 := Scalar.muli v7 c1_i32_583
  let v580 : BitVec 32 := Scalar.addi c0_i32_584 v579
  v580.toNat
def k0_dev33 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_606 : BitVec 32 := 1#32
  let v604 : BitVec 32 := Scalar.muli v7 c1_i32_606
  let v605 : BitVec 32 := Scalar.addi c0_i32_607 v604
  v605.toNat
def k0_dev34 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_626 : BitVec 32 := 1#32
  let v616 : BitVec 32 := Scalar.muli v5 c1_i32_626
  let v617 : BitVec 32 := Scalar.addi c0_i32_627 v616
  v617.toNat
def k0_dev35 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_649 : BitVec 32 := 1#32
  let v641 : BitVec 32 := Scalar.muli v5 c1_i32_649
  let v642 : BitVec 32 := Scalar.addi c0_i32_650 v641
  v642.toNat
def k0_dev36 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_669 : BitVec 32 := 1#32
  let v653 : BitVec 32 := Scalar.muli v7 c1_i32_669
  let v654 : BitVec 32 := Scalar.addi c0_i32_670 v653
  v654.toNat
def k0_dev37 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_692 : BitVec 32 := 1#32
  let v678 : BitVec 32 := Scalar.muli v7 c1_i32_692
  let v679 : BitVec 32 := Scalar.addi c0_i32_693 v678
  v679.toNat
def k0_dev38 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_712 : BitVec 32 := 1#32
  let v690 : BitVec 32 := Scalar.muli v5 c1_i32_712
  let v691 : BitVec 32 := Scalar.addi c0_i32_713 v690
  v691.toNat
def k0_dev39 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_745 : BitVec 32 := 1#32
  let v730 : BitVec 32 := Scalar.muli v5 c1_i32_745
  let v731 : BitVec 32 := Scalar.addi c0_i32_746 v730
  v731.toNat
def k0_dev40 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_765 : BitVec 32 := 1#32
  let v742 : BitVec 32 := Scalar.muli v7 c1_i32_765
  let v743 : BitVec 32 := Scalar.addi c0_i32_766 v742
  v743.toNat
def k0_dev41 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_788 : BitVec 32 := 1#32
  let v767 : BitVec 32 := Scalar.muli v7 c1_i32_788
  let v768 : BitVec 32 := Scalar.addi c0_i32_789 v767
  v768.toNat
def k0_dev42 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_808 : BitVec 32 := 1#32
  let v779 : BitVec 32 := Scalar.muli v5 c1_i32_808
  let v780 : BitVec 32 := Scalar.addi c0_i32_809 v779
  v780.toNat
def k0_dev43 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_831 : BitVec 32 := 1#32
  let v804 : BitVec 32 := Scalar.muli v5 c1_i32_831
  let v805 : BitVec 32 := Scalar.addi c0_i32_832 v804
  v805.toNat
def k0_dev44 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_851 : BitVec 32 := 1#32
  let v816 : BitVec 32 := Scalar.muli v7 c1_i32_851
  let v817 : BitVec 32 := Scalar.addi c0_i32_852 v816
  v817.toNat
def k0_dev45 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_874 : BitVec 32 := 1#32
  let v841 : BitVec 32 := Scalar.muli v7 c1_i32_874
  let v842 : BitVec 32 := Scalar.addi c0_i32_875 v841
  v842.toNat
def k0_dev46 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_894 : BitVec 32 := 1#32
  let v853 : BitVec 32 := Scalar.muli v5 c1_i32_894
  let v854 : BitVec 32 := Scalar.addi c0_i32_895 v853
  v854.toNat
def k0_dev47 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_927 : BitVec 32 := 1#32
  let v893 : BitVec 32 := Scalar.muli v5 c1_i32_927
  let v894 : BitVec 32 := Scalar.addi c0_i32_928 v893
  v894.toNat
def k0_dev48 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_947 : BitVec 32 := 1#32
  let v905 : BitVec 32 := Scalar.muli v7 c1_i32_947
  let v906 : BitVec 32 := Scalar.addi c0_i32_948 v905
  v906.toNat
def k0_dev49 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_970 : BitVec 32 := 1#32
  let v930 : BitVec 32 := Scalar.muli v7 c1_i32_970
  let v931 : BitVec 32 := Scalar.addi c0_i32_971 v930
  v931.toNat
def k0_dev50 (d0 : Dev nD) : Nat :=
  let c0_i32_991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_990 : BitVec 32 := 1#32
  let v942 : BitVec 32 := Scalar.muli v5 c1_i32_990
  let v943 : BitVec 32 := Scalar.addi c0_i32_991 v942
  v943.toNat
def k0_dev51 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1013 : BitVec 32 := 1#32
  let v967 : BitVec 32 := Scalar.muli v5 c1_i32_1013
  let v968 : BitVec 32 := Scalar.addi c0_i32_1014 v967
  v968.toNat
def k0_dev52 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1033 : BitVec 32 := 1#32
  let v979 : BitVec 32 := Scalar.muli v7 c1_i32_1033
  let v980 : BitVec 32 := Scalar.addi c0_i32_1034 v979
  v980.toNat
def k0_dev53 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1056 : BitVec 32 := 1#32
  let v1004 : BitVec 32 := Scalar.muli v7 c1_i32_1056
  let v1005 : BitVec 32 := Scalar.addi c0_i32_1057 v1004
  v1005.toNat
def k0_dev54 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1076 : BitVec 32 := 1#32
  let v1016 : BitVec 32 := Scalar.muli v5 c1_i32_1076
  let v1017 : BitVec 32 := Scalar.addi c0_i32_1077 v1016
  v1017.toNat
def k0_dev55 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1109 : BitVec 32 := 1#32
  let v1056 : BitVec 32 := Scalar.muli v5 c1_i32_1109
  let v1057 : BitVec 32 := Scalar.addi c0_i32_1110 v1056
  v1057.toNat
def k0_dev56 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1129 : BitVec 32 := 1#32
  let v1068 : BitVec 32 := Scalar.muli v7 c1_i32_1129
  let v1069 : BitVec 32 := Scalar.addi c0_i32_1130 v1068
  v1069.toNat
def k0_dev57 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1152 : BitVec 32 := 1#32
  let v1093 : BitVec 32 := Scalar.muli v7 c1_i32_1152
  let v1094 : BitVec 32 := Scalar.addi c0_i32_1153 v1093
  v1094.toNat
def k0_dev58 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1172 : BitVec 32 := 1#32
  let v1105 : BitVec 32 := Scalar.muli v5 c1_i32_1172
  let v1106 : BitVec 32 := Scalar.addi c0_i32_1173 v1105
  v1106.toNat
def k0_dev59 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1195 : BitVec 32 := 1#32
  let v1130 : BitVec 32 := Scalar.muli v5 c1_i32_1195
  let v1131 : BitVec 32 := Scalar.addi c0_i32_1196 v1130
  v1131.toNat
def k0_dev60 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1215 : BitVec 32 := 1#32
  let v1142 : BitVec 32 := Scalar.muli v7 c1_i32_1215
  let v1143 : BitVec 32 := Scalar.addi c0_i32_1216 v1142
  v1143.toNat
def k0_dev61 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1238 : BitVec 32 := 1#32
  let v1167 : BitVec 32 := Scalar.muli v7 c1_i32_1238
  let v1168 : BitVec 32 := Scalar.addi c0_i32_1239 v1167
  v1168.toNat
def k0_dev62 (d0 : Dev nD) : Nat :=
  let c0_i32_1259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1258 : BitVec 32 := 1#32
  let v1179 : BitVec 32 := Scalar.muli v5 c1_i32_1258
  let v1180 : BitVec 32 := Scalar.addi c0_i32_1259 v1179
  v1180.toNat
def k0_dev63 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1291 : BitVec 32 := 1#32
  let v1219 : BitVec 32 := Scalar.muli v5 c1_i32_1291
  let v1220 : BitVec 32 := Scalar.addi c0_i32_1292 v1219
  v1220.toNat
def k0_dev64 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1311 : BitVec 32 := 1#32
  let v1231 : BitVec 32 := Scalar.muli v7 c1_i32_1311
  let v1232 : BitVec 32 := Scalar.addi c0_i32_1312 v1231
  v1232.toNat
def k0_dev65 (d0 : Dev nD) : Nat :=
  let c0_i32_1335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1334 : BitVec 32 := 1#32
  let v1256 : BitVec 32 := Scalar.muli v7 c1_i32_1334
  let v1257 : BitVec 32 := Scalar.addi c0_i32_1335 v1256
  v1257.toNat
def k0_dev66 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1354 : BitVec 32 := 1#32
  let v1268 : BitVec 32 := Scalar.muli v5 c1_i32_1354
  let v1269 : BitVec 32 := Scalar.addi c0_i32_1355 v1268
  v1269.toNat
def k0_dev67 (d0 : Dev nD) : Nat :=
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1377 : BitVec 32 := 1#32
  let v1293 : BitVec 32 := Scalar.muli v5 c1_i32_1377
  let v1294 : BitVec 32 := Scalar.addi c0_i32_1378 v1293
  v1294.toNat
def k0_dev68 (d0 : Dev nD) : Nat :=
  let c0_i32_1398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1397 : BitVec 32 := 1#32
  let v1305 : BitVec 32 := Scalar.muli v7 c1_i32_1397
  let v1306 : BitVec 32 := Scalar.addi c0_i32_1398 v1305
  v1306.toNat
def k0_dev69 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1420 : BitVec 32 := 1#32
  let v1330 : BitVec 32 := Scalar.muli v7 c1_i32_1420
  let v1331 : BitVec 32 := Scalar.addi c0_i32_1421 v1330
  v1331.toNat
def k0_dev70 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1440 : BitVec 32 := 1#32
  let v1342 : BitVec 32 := Scalar.muli v5 c1_i32_1440
  let v1343 : BitVec 32 := Scalar.addi c0_i32_1441 v1342
  v1343.toNat
def k0_dev71 (d0 : Dev nD) : Nat :=
  let c0_i32_1474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1473 : BitVec 32 := 1#32
  let v1382 : BitVec 32 := Scalar.muli v5 c1_i32_1473
  let v1383 : BitVec 32 := Scalar.addi c0_i32_1474 v1382
  v1383.toNat
def k0_dev72 (d0 : Dev nD) : Nat :=
  let c0_i32_1494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1493 : BitVec 32 := 1#32
  let v1394 : BitVec 32 := Scalar.muli v7 c1_i32_1493
  let v1395 : BitVec 32 := Scalar.addi c0_i32_1494 v1394
  v1395.toNat
def k0_dev73 (d0 : Dev nD) : Nat :=
  let c0_i32_1517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1516 : BitVec 32 := 1#32
  let v1419 : BitVec 32 := Scalar.muli v7 c1_i32_1516
  let v1420 : BitVec 32 := Scalar.addi c0_i32_1517 v1419
  v1420.toNat
def k0_dev74 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1536 : BitVec 32 := 1#32
  let v1431 : BitVec 32 := Scalar.muli v5 c1_i32_1536
  let v1432 : BitVec 32 := Scalar.addi c0_i32_1537 v1431
  v1432.toNat
def k0_dev75 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1559 : BitVec 32 := 1#32
  let v1456 : BitVec 32 := Scalar.muli v5 c1_i32_1559
  let v1457 : BitVec 32 := Scalar.addi c0_i32_1560 v1456
  v1457.toNat
def k0_dev76 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1579 : BitVec 32 := 1#32
  let v1468 : BitVec 32 := Scalar.muli v7 c1_i32_1579
  let v1469 : BitVec 32 := Scalar.addi c0_i32_1580 v1468
  v1469.toNat
def k0_dev77 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1602 : BitVec 32 := 1#32
  let v1493 : BitVec 32 := Scalar.muli v7 c1_i32_1602
  let v1494 : BitVec 32 := Scalar.addi c0_i32_1603 v1493
  v1494.toNat
def k0_dev78 (d0 : Dev nD) : Nat :=
  let c0_i32_1623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1622 : BitVec 32 := 1#32
  let v1505 : BitVec 32 := Scalar.muli v5 c1_i32_1622
  let v1506 : BitVec 32 := Scalar.addi c0_i32_1623 v1505
  v1506.toNat
def k0_dev79 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1655 : BitVec 32 := 1#32
  let v1545 : BitVec 32 := Scalar.muli v5 c1_i32_1655
  let v1546 : BitVec 32 := Scalar.addi c0_i32_1656 v1545
  v1546.toNat
def k0_dev80 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1675 : BitVec 32 := 1#32
  let v1557 : BitVec 32 := Scalar.muli v7 c1_i32_1675
  let v1558 : BitVec 32 := Scalar.addi c0_i32_1676 v1557
  v1558.toNat
def k0_dev81 (d0 : Dev nD) : Nat :=
  let c0_i32_1699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1698 : BitVec 32 := 1#32
  let v1582 : BitVec 32 := Scalar.muli v7 c1_i32_1698
  let v1583 : BitVec 32 := Scalar.addi c0_i32_1699 v1582
  v1583.toNat
def k0_dev82 (d0 : Dev nD) : Nat :=
  let c0_i32_1719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1718 : BitVec 32 := 1#32
  let v1594 : BitVec 32 := Scalar.muli v5 c1_i32_1718
  let v1595 : BitVec 32 := Scalar.addi c0_i32_1719 v1594
  v1595.toNat
def k0_dev83 (d0 : Dev nD) : Nat :=
  let c0_i32_1742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1741 : BitVec 32 := 1#32
  let v1619 : BitVec 32 := Scalar.muli v5 c1_i32_1741
  let v1620 : BitVec 32 := Scalar.addi c0_i32_1742 v1619
  v1620.toNat
def k0_dev84 (d0 : Dev nD) : Nat :=
  let c0_i32_1762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1761 : BitVec 32 := 1#32
  let v1631 : BitVec 32 := Scalar.muli v7 c1_i32_1761
  let v1632 : BitVec 32 := Scalar.addi c0_i32_1762 v1631
  v1632.toNat
def k0_dev85 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1784 : BitVec 32 := 1#32
  let v1656 : BitVec 32 := Scalar.muli v7 c1_i32_1784
  let v1657 : BitVec 32 := Scalar.addi c0_i32_1785 v1656
  v1657.toNat
def k0_dev86 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1804 : BitVec 32 := 1#32
  let v1668 : BitVec 32 := Scalar.muli v5 c1_i32_1804
  let v1669 : BitVec 32 := Scalar.addi c0_i32_1805 v1668
  v1669.toNat
def k0_dev87 (d0 : Dev nD) : Nat :=
  let c0_i32_1838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1837 : BitVec 32 := 1#32
  let v1708 : BitVec 32 := Scalar.muli v5 c1_i32_1837
  let v1709 : BitVec 32 := Scalar.addi c0_i32_1838 v1708
  v1709.toNat
def k0_dev88 (d0 : Dev nD) : Nat :=
  let c0_i32_1858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1857 : BitVec 32 := 1#32
  let v1720 : BitVec 32 := Scalar.muli v7 c1_i32_1857
  let v1721 : BitVec 32 := Scalar.addi c0_i32_1858 v1720
  v1721.toNat
def k0_dev89 (d0 : Dev nD) : Nat :=
  let c0_i32_1881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1880 : BitVec 32 := 1#32
  let v1745 : BitVec 32 := Scalar.muli v7 c1_i32_1880
  let v1746 : BitVec 32 := Scalar.addi c0_i32_1881 v1745
  v1746.toNat
def k0_dev90 (d0 : Dev nD) : Nat :=
  let c0_i32_1901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1900 : BitVec 32 := 1#32
  let v1757 : BitVec 32 := Scalar.muli v5 c1_i32_1900
  let v1758 : BitVec 32 := Scalar.addi c0_i32_1901 v1757
  v1758.toNat
def k0_dev91 (d0 : Dev nD) : Nat :=
  let c0_i32_1924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1923 : BitVec 32 := 1#32
  let v1782 : BitVec 32 := Scalar.muli v5 c1_i32_1923
  let v1783 : BitVec 32 := Scalar.addi c0_i32_1924 v1782
  v1783.toNat
def k0_dev92 (d0 : Dev nD) : Nat :=
  let c0_i32_1944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1943 : BitVec 32 := 1#32
  let v1794 : BitVec 32 := Scalar.muli v7 c1_i32_1943
  let v1795 : BitVec 32 := Scalar.addi c0_i32_1944 v1794
  v1795.toNat
def k0_dev93 (d0 : Dev nD) : Nat :=
  let c0_i32_1967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1966 : BitVec 32 := 1#32
  let v1819 : BitVec 32 := Scalar.muli v7 c1_i32_1966
  let v1820 : BitVec 32 := Scalar.addi c0_i32_1967 v1819
  v1820.toNat
def k0_dev94 (d0 : Dev nD) : Nat :=
  let c0_i32_1987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1986 : BitVec 32 := 1#32
  let v1831 : BitVec 32 := Scalar.muli v5 c1_i32_1986
  let v1832 : BitVec 32 := Scalar.addi c0_i32_1987 v1831
  v1832.toNat
def k0_dev95 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2019 : BitVec 32 := 1#32
  let v1871 : BitVec 32 := Scalar.muli v5 c1_i32_2019
  let v1872 : BitVec 32 := Scalar.addi c0_i32_2020 v1871
  v1872.toNat
def k0_dev96 (d0 : Dev nD) : Nat :=
  let c0_i32_2040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2039 : BitVec 32 := 1#32
  let v1883 : BitVec 32 := Scalar.muli v7 c1_i32_2039
  let v1884 : BitVec 32 := Scalar.addi c0_i32_2040 v1883
  v1884.toNat
def k0_dev97 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2062 : BitVec 32 := 1#32
  let v1908 : BitVec 32 := Scalar.muli v7 c1_i32_2062
  let v1909 : BitVec 32 := Scalar.addi c0_i32_2063 v1908
  v1909.toNat
def k0_dev98 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2082 : BitVec 32 := 1#32
  let v1920 : BitVec 32 := Scalar.muli v5 c1_i32_2082
  let v1921 : BitVec 32 := Scalar.addi c0_i32_2083 v1920
  v1921.toNat
def k0_dev99 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2105 : BitVec 32 := 1#32
  let v1945 : BitVec 32 := Scalar.muli v5 c1_i32_2105
  let v1946 : BitVec 32 := Scalar.addi c0_i32_2106 v1945
  v1946.toNat
def k0_dev100 (d0 : Dev nD) : Nat :=
  let c0_i32_2126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2125 : BitVec 32 := 1#32
  let v1957 : BitVec 32 := Scalar.muli v7 c1_i32_2125
  let v1958 : BitVec 32 := Scalar.addi c0_i32_2126 v1957
  v1958.toNat
def k0_dev101 (d0 : Dev nD) : Nat :=
  let c0_i32_2149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2148 : BitVec 32 := 1#32
  let v1982 : BitVec 32 := Scalar.muli v7 c1_i32_2148
  let v1983 : BitVec 32 := Scalar.addi c0_i32_2149 v1982
  v1983.toNat
def k0_dev102 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2168 : BitVec 32 := 1#32
  let v1994 : BitVec 32 := Scalar.muli v5 c1_i32_2168
  let v1995 : BitVec 32 := Scalar.addi c0_i32_2169 v1994
  v1995.toNat
def k0_dev103 (d0 : Dev nD) : Nat :=
  let c0_i32_2219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2218 : BitVec 32 := 1#32
  let v2044 : BitVec 32 := Scalar.muli v7 c1_i32_2218
  let v2045 : BitVec 32 := Scalar.addi c0_i32_2219 v2044
  v2045.toNat
def k0_dev104 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2258 : BitVec 32 := 1#32
  let v2079 : BitVec 32 := Scalar.muli v5 c1_i32_2258
  let v2080 : BitVec 32 := Scalar.addi c0_i32_2259 v2079
  v2080.toNat
def k0_dev105 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2298 : BitVec 32 := 1#32
  let v2114 : BitVec 32 := Scalar.muli v7 c1_i32_2298
  let v2115 : BitVec 32 := Scalar.addi c0_i32_2299 v2114
  v2115.toNat
def k0_dev106 (d0 : Dev nD) : Nat :=
  let c0_i32_2339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2338 : BitVec 32 := 1#32
  let v2149 : BitVec 32 := Scalar.muli v5 c1_i32_2338
  let v2150 : BitVec 32 := Scalar.addi c0_i32_2339 v2149
  v2150.toNat
def k0_dev107 (d0 : Dev nD) : Nat :=
  let c0_i32_2389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2388 : BitVec 32 := 1#32
  let v2199 : BitVec 32 := Scalar.muli v7 c1_i32_2388
  let v2200 : BitVec 32 := Scalar.addi c0_i32_2389 v2199
  v2200.toNat
def k0_dev108 (d0 : Dev nD) : Nat :=
  let c0_i32_2429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2428 : BitVec 32 := 1#32
  let v2234 : BitVec 32 := Scalar.muli v5 c1_i32_2428
  let v2235 : BitVec 32 := Scalar.addi c0_i32_2429 v2234
  v2235.toNat
def k0_dev109 (d0 : Dev nD) : Nat :=
  let c0_i32_2469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2468 : BitVec 32 := 1#32
  let v2269 : BitVec 32 := Scalar.muli v7 c1_i32_2468
  let v2270 : BitVec 32 := Scalar.addi c0_i32_2469 v2269
  v2270.toNat
def k0_dev110 (d0 : Dev nD) : Nat :=
  let c0_i32_2509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2508 : BitVec 32 := 1#32
  let v2304 : BitVec 32 := Scalar.muli v5 c1_i32_2508
  let v2305 : BitVec 32 := Scalar.addi c0_i32_2509 v2304
  v2305.toNat
def k0_dev111 (d0 : Dev nD) : Nat :=
  let c0_i32_2607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2602 : BitVec 32 := 1#32
  let v2420 : BitVec 32 := Scalar.xori v2 c1_i32_2602
  let c1_i32_2606 : BitVec 32 := 1#32
  let v2421 : BitVec 32 := Scalar.muli v2420 c1_i32_2606
  let v2422 : BitVec 32 := Scalar.addi c0_i32_2607 v2421
  v2422.toNat
def k0_dev112 (d0 : Dev nD) : Nat :=
  let c0_i32_2615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2610 : BitVec 32 := 2#32
  let v2429 : BitVec 32 := Scalar.xori v2 c2_i32_2610
  let c1_i32_2614 : BitVec 32 := 1#32
  let v2430 : BitVec 32 := Scalar.muli v2429 c1_i32_2614
  let v2431 : BitVec 32 := Scalar.addi c0_i32_2615 v2430
  v2431.toNat
def k0_dev113 (d0 : Dev nD) : Nat :=
  let c0_i32_2623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2618 : BitVec 32 := 3#32
  let v2438 : BitVec 32 := Scalar.xori v2 c3_i32_2618
  let c1_i32_2622 : BitVec 32 := 1#32
  let v2439 : BitVec 32 := Scalar.muli v2438 c1_i32_2622
  let v2440 : BitVec 32 := Scalar.addi c0_i32_2623 v2439
  v2440.toNat
def k0_dev114 (d0 : Dev nD) : Nat :=
  let c0_i32_2631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2626 : BitVec 32 := 4#32
  let v2447 : BitVec 32 := Scalar.xori v2 c4_i32_2626
  let c1_i32_2630 : BitVec 32 := 1#32
  let v2448 : BitVec 32 := Scalar.muli v2447 c1_i32_2630
  let v2449 : BitVec 32 := Scalar.addi c0_i32_2631 v2448
  v2449.toNat
def k0_dev115 (d0 : Dev nD) : Nat :=
  let c0_i32_2639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2634 : BitVec 32 := 5#32
  let v2456 : BitVec 32 := Scalar.xori v2 c5_i32_2634
  let c1_i32_2638 : BitVec 32 := 1#32
  let v2457 : BitVec 32 := Scalar.muli v2456 c1_i32_2638
  let v2458 : BitVec 32 := Scalar.addi c0_i32_2639 v2457
  v2458.toNat
def k0_dev116 (d0 : Dev nD) : Nat :=
  let c0_i32_2647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2642 : BitVec 32 := 6#32
  let v2465 : BitVec 32 := Scalar.xori v2 c6_i32_2642
  let c1_i32_2646 : BitVec 32 := 1#32
  let v2466 : BitVec 32 := Scalar.muli v2465 c1_i32_2646
  let v2467 : BitVec 32 := Scalar.addi c0_i32_2647 v2466
  v2467.toNat
def k0_dev117 (d0 : Dev nD) : Nat :=
  let c0_i32_2655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2650 : BitVec 32 := 7#32
  let v2474 : BitVec 32 := Scalar.xori v2 c7_i32_2650
  let c1_i32_2654 : BitVec 32 := 1#32
  let v2475 : BitVec 32 := Scalar.muli v2474 c1_i32_2654
  let v2476 : BitVec 32 := Scalar.addi c0_i32_2655 v2475
  v2476.toNat
def k0_dev118 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2658 : BitVec 32 := 8#32
  let v2483 : BitVec 32 := Scalar.xori v2 c8_i32_2658
  let c1_i32_2662 : BitVec 32 := 1#32
  let v2484 : BitVec 32 := Scalar.muli v2483 c1_i32_2662
  let v2485 : BitVec 32 := Scalar.addi c0_i32_2663 v2484
  v2485.toNat
def k0_dev119 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2666 : BitVec 32 := 9#32
  let v2492 : BitVec 32 := Scalar.xori v2 c9_i32_2666
  let c1_i32_2670 : BitVec 32 := 1#32
  let v2493 : BitVec 32 := Scalar.muli v2492 c1_i32_2670
  let v2494 : BitVec 32 := Scalar.addi c0_i32_2671 v2493
  v2494.toNat
def k0_dev120 (d0 : Dev nD) : Nat :=
  let c0_i32_2679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2674 : BitVec 32 := 10#32
  let v2501 : BitVec 32 := Scalar.xori v2 c10_i32_2674
  let c1_i32_2678 : BitVec 32 := 1#32
  let v2502 : BitVec 32 := Scalar.muli v2501 c1_i32_2678
  let v2503 : BitVec 32 := Scalar.addi c0_i32_2679 v2502
  v2503.toNat
def k0_dev121 (d0 : Dev nD) : Nat :=
  let c0_i32_2687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2682 : BitVec 32 := 11#32
  let v2510 : BitVec 32 := Scalar.xori v2 c11_i32_2682
  let c1_i32_2686 : BitVec 32 := 1#32
  let v2511 : BitVec 32 := Scalar.muli v2510 c1_i32_2686
  let v2512 : BitVec 32 := Scalar.addi c0_i32_2687 v2511
  v2512.toNat
def k0_dev122 (d0 : Dev nD) : Nat :=
  let c0_i32_2695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2690 : BitVec 32 := 12#32
  let v2519 : BitVec 32 := Scalar.xori v2 c12_i32_2690
  let c1_i32_2694 : BitVec 32 := 1#32
  let v2520 : BitVec 32 := Scalar.muli v2519 c1_i32_2694
  let v2521 : BitVec 32 := Scalar.addi c0_i32_2695 v2520
  v2521.toNat
def k0_dev123 (d0 : Dev nD) : Nat :=
  let c0_i32_2703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2698 : BitVec 32 := 13#32
  let v2528 : BitVec 32 := Scalar.xori v2 c13_i32_2698
  let c1_i32_2702 : BitVec 32 := 1#32
  let v2529 : BitVec 32 := Scalar.muli v2528 c1_i32_2702
  let v2530 : BitVec 32 := Scalar.addi c0_i32_2703 v2529
  v2530.toNat
def k0_dev124 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2706 : BitVec 32 := 14#32
  let v2537 : BitVec 32 := Scalar.xori v2 c14_i32_2706
  let c1_i32_2710 : BitVec 32 := 1#32
  let v2538 : BitVec 32 := Scalar.muli v2537 c1_i32_2710
  let v2539 : BitVec 32 := Scalar.addi c0_i32_2711 v2538
  v2539.toNat
def k0_dev125 (d0 : Dev nD) : Nat :=
  let c0_i32_2719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2714 : BitVec 32 := 15#32
  let v2546 : BitVec 32 := Scalar.xori v2 c15_i32_2714
  let c1_i32_2718 : BitVec 32 := 1#32
  let v2547 : BitVec 32 := Scalar.muli v2546 c1_i32_2718
  let v2548 : BitVec 32 := Scalar.addi c0_i32_2719 v2547
  v2548.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Steps.lean ====
/-
# The kernel's body as rounds of the four rings

The printed body is one straight line of some thousand operations. Here it is written again as what it is: an entry
handshake on the barrier semaphore, sixteen rounds of four ring lanes, an exchange of one row block between all pairs of
devices, and the quantisation of the output block. Each lane of a round is the same few operations at the lane's own
buffers and semaphores, so each is written once, with the lane and the message number as variables. `body_eq` says
that the printed body IS this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Ring

open Cert.KernelIdeal Cert.KernelIdeal.Gen
open Idealize.ShloMosaic Idealize.ShloMosaic.TcCoe
open Idealize.SL.Sem

variable {F : FTy → Type} [FloatOps F]

/-- The kernel's programs. -/
abbrev P (F : FTy → Type) [FloatOps F] : Type 1 := Prog (TpuEff nD τ sig (Elt F) Λ₀ .tc) PUnit

/-! ### The lanes' buffers and semaphores -/

/-- Lane `ℓ`'s send buffer: three slots of one message each. -/
def sb : Fin 4 → Memref sig .tc .vmem S3x256x512 .bf16
  | 0 => Memref.whole cc0_scratch0 | 1 => Memref.whole cc0_scratch1
  | 2 => Memref.whole cc0_scratch2 | 3 => Memref.whole cc0_scratch3
/-- Lane `ℓ`'s receive buffer. -/
def rb : Fin 4 → Memref sig .tc .vmem S3x256x512 .bf16
  | 0 => Memref.whole cc0_scratch4 | 1 => Memref.whole cc0_scratch5
  | 2 => Memref.whole cc0_scratch6 | 3 => Memref.whole cc0_scratch7
/-- Lane `ℓ`'s send semaphores, one per slot. -/
def ss : Fin 4 → DmaSems sig S3 | 0 => cc0_scratch10 | 1 => cc0_scratch11 | 2 => cc0_scratch12 | 3 => cc0_scratch13
/-- Lane `ℓ`'s receive semaphores, one per slot. -/
def rs : Fin 4 → DmaSems sig S3 | 0 => cc0_scratch14 | 1 => cc0_scratch15 | 2 => cc0_scratch16 | 3 => cc0_scratch17
/-- Lane `ℓ`'s credit semaphore. -/
def cs : Fin 4 → Sems sig S_ | 0 => cc0_scratch20 | 1 => cc0_scratch21 | 2 => cc0_scratch22 | 3 => cc0_scratch23
/-- The device's own largest absolute value, in every entry. -/
abbrev am : Memref sig .tc .vmem S8x128 .f32 := Memref.whole cc0_scratch8
/-- The partners' largest absolute values, one slot per partner. -/
abbrev ar : Memref sig .tc .vmem S16x8x128 .f32 := Memref.whole cc0_scratch9
/-- The barrier semaphore. -/
abbrev bar : Sems sig S_ := SemArray.scalar (sig.barrier 0 rfl)

theorem sb_whole : ∀ ℓ, (sb ℓ).IsWhole
  | 0 => Memref.isWhole_whole _ | 1 => Memref.isWhole_whole _ | 2 => Memref.isWhole_whole _ | 3 => Memref.isWhole_whole _
theorem rb_whole : ∀ ℓ, (rb ℓ).IsWhole
  | 0 => Memref.isWhole_whole _ | 1 => Memref.isWhole_whole _ | 2 => Memref.isWhole_whole _ | 3 => Memref.isWhole_whole _

/-! ### Slots -/

/-- The slot a message travels through. -/
def slot (i : ℕ) : Fin 3 := ⟨i % 3, Nat.mod_lt _ (by decide)⟩

theorem slot_inb (k : Fin 3) : ∀ a, (![k.val, 0, 0] : Fin 3 → Nat) a + S1x256x512.size a ≤ S3x256x512.size a := by
  revert k; decide
/-- Slot `k` of a three-slot buffer. -/
abbrev slotR (k : Fin 3) : Rect S3x256x512 := Rect.unit (s := S3x256x512) ![k.val, 0, 0] S1x256x512.size (slot_inb k)
theorem slot_packed : ∀ k, (slotR k).PackedRows (EltTy.packing .bf16)
  | 0 => packedbf16_S3x256x512_S1x256x512_0_0_0 | 1 => packedbf16_S3x256x512_S1x256x512_1_0_0
  | 2 => packedbf16_S3x256x512_S1x256x512_2_0_0
theorem slot_words : ∀ k, (slotR k).WholeWords (EltTy.packing .bf16)
  | 0 => wordsbf16_S3x256x512_S1x256x512_0_0_0 | 1 => wordsbf16_S3x256x512_S1x256x512_1_0_0
  | 2 => wordsbf16_S3x256x512_S1x256x512_2_0_0
/-- Slot `k` as the copies name it. -/
abbrev slotM (M : Memref sig .tc .vmem S3x256x512 .bf16) (k : Fin 3) : Memref sig .tc .vmem S256x512 .bf16 :=
  (M.slice (slotR k) (fun _ => rfl)).squeeze S256x512 squeezes_S1x256x512_S256x512
theorem slotM_exact {M : Memref sig .tc .vmem S3x256x512 .bf16} (h : M.IsWhole) (k : Fin 3) : (slotM M k).view.WordExact :=
  (h.wordExact_slice rfl _ (slot_words k)).reshape _ _
theorem sem3_inb (k : Fin 3) : ∀ a, (![k.val] : Fin 1 → Nat) a + S1.size a ≤ S3.size a := by revert k; decide
/-- Semaphore `k` of three. -/
abbrev sem3 (A : DmaSems sig S3) (k : Fin 3) : DmaSem sig :=
  ((A.slice (Rect.unit (s := S3) ![k.val] S1.size (sem3_inb k))).squeeze S_ squeezes_S1_S_).sem

theorem part_inb (j : Fin 16) : ∀ a, (![j.val, 0, 0] : Fin 3 → Nat) a + S1x8x128.size a ≤ S16x8x128.size a := by
  revert j; decide
/-- Partner `j`'s slot of the exchange buffer. -/
abbrev partR (j : Fin 16) : Rect S16x8x128 := Rect.unit (s := S16x8x128) ![j.val, 0, 0] S1x8x128.size (part_inb j)
/-- Partner `j`'s slot as the copies name it. -/
abbrev partM (j : Fin 16) : Memref sig .tc .vmem S8x128 .f32 :=
  (ar.slice (partR j) (fun _ => rfl)).squeeze S8x128 squeezes_S1x8x128_S8x128
theorem sem16_inb (j : Fin 16) : ∀ a, (![j.val] : Fin 1 → Nat) a + S1.size a ≤ S16.size a := by revert j; decide
/-- Semaphore `j` of sixteen. -/
abbrev sem16 (A : DmaSems sig S16) (j : Fin 16) : DmaSem sig :=
  ((A.slice (Rect.unit (s := S16) ![j.val] S1.size (sem16_inb j))).squeeze S_ squeezes_S1_S_).sem

/-- Where lane `ℓ`'s columns begin. -/
def col : Fin 4 → ℕ | 0 => 0 | 1 => 1024 | 2 => 512 | 3 => 1536
theorem col_inb (ℓ : Fin 4) : ∀ a, (![0, col ℓ] : Fin 2 → Nat) a + S256x512.size a ≤ S256x2048.size a := by
  revert ℓ; decide
/-- Lane `ℓ`'s columns of a block of 256 rows. -/
abbrev colR (ℓ : Fin 4) : Rect S256x2048 := Rect.unit (s := S256x2048) ![0, col ℓ] S256x512.size (col_inb ℓ)
/-- The rows of `x` that the right-going lanes multiply in round `s`. -/
abbrev rowR (c : Dev nD) (s : Fin 16) : Rect S4096x256 :=
  Rect.unit (s := S4096x256) (k0_off1 c (BitVec.ofNat 32 s.val)) S256x256.size (k0_off1_inb c s)
/-- The rows of `x` that the left-going lanes multiply in round `s`. -/
abbrev rowL (c : Dev nD) (s : Fin 16) : Rect S4096x256 :=
  Rect.unit (s := S4096x256) (k0_off2 c (BitVec.ofNat 32 s.val)) S256x256.size (k0_off2_inb c s)

/-! ### The values -/

/-- The device's own product for one block of rows and one lane's columns. -/
def prodV (x : Vec F S256x256 .f32) (w : Vec F S256x512 .f32) : FVec F S256x512 .f32 :=
  matmul dot_S256x256_S256x512_S256x512_1_0_0_1_n_n none (shapeCast S256x256 x shapeCasts_S256x256_S256x256 : FVec F S256x256 .f32)
    (shapeCast S256x512 w shapeCasts_S256x512_S256x512 : FVec F S256x512 .f32) (constant S256x512 .f32 0x00000000#32)
/-- The product and what came from the neighbour. -/
def addV (x : Vec F S256x256 .f32) (w : Vec F S256x512 .f32) (r : Vec F S1x256x512 .bf16) : FVec F S256x512 .f32 :=
  addf (prodV x w) (extf .f32 (shapeCast S256x512 r shapeCasts_S1x256x512_S256x512 : FVec F S256x512 .bf16) bitsLt_bf16_f32)
/-- A value as a slot stores it. -/
def packV (v : FVec F S256x512 .f32) : FVec F S1x256x512 .bf16 :=
  shapeCast S1x256x512 (truncf .bf16 v bitsLt_bf16_f32) shapeCasts_S256x512_S1x256x512
/-- The largest absolute value of a block. -/
def absMaxV (v : FVec F S256x512 .f32) : F .f32 :=
  extractAt ![0, 0, 0] (shapeCast S1x1x1
    (multiReduction .maximumf [1, 2] S1 (shapeCast S1x256x512 (absf v) shapeCasts_S256x512_S1x256x512 : FVec F S1x256x512 .f32)
      0xFF800000#32 reduces_S1x256x512_S1 (.inl rfl) rfl : FVec F S1 .f32)
    shapeCasts_S1_S1x1x1 : FVec F S1x1x1 .f32) inpos_S1x1x1_p0_0_0
/-- The largest of four, in every entry. -/
def amaxV (a b c d : F .f32) : FVec F S8x128 .f32 :=
  shapeCast S8x128 (broadcast S8x128 (Scalar.maximumf (Scalar.maximumf (Scalar.maximumf a b) c) d) : FVec F S8x128 .f32)
    shapeCasts_S8x128_S8x128
/-- One partner's largest absolute value joined in. -/
def joinV (a : FVec F S8x128 .f32) (r : Vec F S1x8x128 .f32) : FVec F S8x128 .f32 :=
  maximumf a (shapeCast S8x128 r shapeCasts_S1x8x128_S8x128 : FVec F S8x128 .f32)

/-! ### The operations of one lane -/

/-- The lane's columns of `w`. -/
def loadW (wm : Memref sig .tc .vmem S256x2048 .f32) (ℓ : Fin 4) (k : Vec F S256x512 .f32 → P F) : P F :=
  .op (.load wm (colR ℓ).toLoadRect (View.loadsAt_vmem h_S256x512)) k

/-- Wait for the message in slot `j` and read it. -/
def recv (ℓ : Fin 4) (j : Fin 3) (k : Vec F S1x256x512 .bf16 → P F) : P F :=
  .op (.waitDma2 (sem3 (rs ℓ) j) (slotM (sb ℓ) j) (slotM (rb ℓ) j) (slotM_exact (sb_whole ℓ) j) (slotM_exact (rb_whole ℓ) j)) fun _ =>
  .op (.load (rb ℓ) (slotR j).toLoadRect (View.loadsAt_vmem h_S1x256x512)) k

/-- Tell the sender `n` that a slot is free again. -/
def credit (ℓ : Fin 4) (n : Dev nD) (k : P F) : P F :=
  .op (.semSignal (n, .tc) (cs ℓ).sem (1#32).toInt) fun _ => k

/-- Wait until slot `j`'s last copy has left. -/
def sent (ℓ : Fin 4) (j : Fin 3) (k : P F) : P F :=
  .op (.waitDma2 (sem3 (ss ℓ) j) (slotM (rb ℓ) j) (slotM (sb ℓ) j) (slotM_exact (rb_whole ℓ) j) (slotM_exact (sb_whole ℓ) j)) fun _ => k

/-- Wait for one credit. -/
def take (ℓ : Fin 4) (k : P F) : P F := .op (.semWait (cs ℓ).sem (1#32).toInt) fun _ => k

/-- Put a message into slot `j` and start its copy to device `n`. -/
def put (ℓ : Fin 4) (j : Fin 3) (n : Dev nD) (v : FVec F S1x256x512 .bf16) (k : P F) : P F :=
  .op (.load (sb ℓ) (slotR j).toLoadRect (View.loadsAt_vmem h_S1x256x512)) fun _ =>
  .op (.store (sb ℓ) (slotR j) v Finset.univ (View.stores_vmem h_S1x256x512 ((sb_whole ℓ).storeExact_slice rfl _ (slot_packed j)) (fun _ => rfl)) (.inl rfl)) fun _ =>
  .op (.enqueueDma (slotM (sb ℓ) j) (.remote (Dev.tc n) (slotM (rb ℓ) j) (.dma (sem3 (ss ℓ) j))) (.dma (sem3 (rs ℓ) j))
    (slotM_exact (sb_whole ℓ) j) (slotM_exact (rb_whole ℓ) j) ⟨⟨rfl, Or.inl rfl⟩, trivial⟩) fun _ => k

/-- Put a finished block into the lane's columns of the output block. -/
def putOut (om : Memref sig .tc .vmem S256x2048 .f32) (ℓ : Fin 4) (v : FVec F S256x512 .f32) (k : P F) : P F :=
  .op (.load om (colR ℓ).toLoadRect (View.loadsAt_vmem h_S256x512)) fun _ =>
  .op (.store om (colR ℓ) v Finset.univ (View.stores_vmem_bits_univ h_S256x512 rfl) (.inl rfl)) fun _ => k

/-! ### Who a copy or a signal goes to, as the body computes it -/

/-- The receivers of the rounds' messages, round by round and lane by lane. -/
def sendTab (c : Dev nD) : List (Dev nD) :=
  [⟨k0_dev3 c, k0_dev3_lt c⟩, ⟨k0_dev4 c, k0_dev4_lt c⟩, ⟨k0_dev5 c, k0_dev5_lt c⟩, ⟨k0_dev6 c, k0_dev6_lt c⟩,
    ⟨k0_dev8 c, k0_dev8_lt c⟩, ⟨k0_dev10 c, k0_dev10_lt c⟩, ⟨k0_dev12 c, k0_dev12_lt c⟩, ⟨k0_dev14 c, k0_dev14_lt c⟩,
    ⟨k0_dev16 c, k0_dev16_lt c⟩, ⟨k0_dev18 c, k0_dev18_lt c⟩, ⟨k0_dev20 c, k0_dev20_lt c⟩, ⟨k0_dev22 c, k0_dev22_lt c⟩,
    ⟨k0_dev24 c, k0_dev24_lt c⟩, ⟨k0_dev26 c, k0_dev26_lt c⟩, ⟨k0_dev28 c, k0_dev28_lt c⟩, ⟨k0_dev30 c, k0_dev30_lt c⟩,
    ⟨k0_dev32 c, k0_dev32_lt c⟩, ⟨k0_dev34 c, k0_dev34_lt c⟩, ⟨k0_dev36 c, k0_dev36_lt c⟩, ⟨k0_dev38 c, k0_dev38_lt c⟩,
    ⟨k0_dev40 c, k0_dev40_lt c⟩, ⟨k0_dev42 c, k0_dev42_lt c⟩, ⟨k0_dev44 c, k0_dev44_lt c⟩, ⟨k0_dev46 c, k0_dev46_lt c⟩,
    ⟨k0_dev48 c, k0_dev48_lt c⟩, ⟨k0_dev50 c, k0_dev50_lt c⟩, ⟨k0_dev52 c, k0_dev52_lt c⟩, ⟨k0_dev54 c, k0_dev54_lt c⟩,
    ⟨k0_dev56 c, k0_dev56_lt c⟩, ⟨k0_dev58 c, k0_dev58_lt c⟩, ⟨k0_dev60 c, k0_dev60_lt c⟩, ⟨k0_dev62 c, k0_dev62_lt c⟩,
    ⟨k0_dev64 c, k0_dev64_lt c⟩, ⟨k0_dev66 c, k0_dev66_lt c⟩, ⟨k0_dev68 c, k0_dev68_lt c⟩, ⟨k0_dev70 c, k0_dev70_lt c⟩,
    ⟨k0_dev72 c, k0_dev72_lt c⟩, ⟨k0_dev74 c, k0_dev74_lt c⟩, ⟨k0_dev76 c, k0_dev76_lt c⟩, ⟨k0_dev78 c, k0_dev78_lt c⟩,
    ⟨k0_dev80 c, k0_dev80_lt c⟩, ⟨k0_dev82 c, k0_dev82_lt c⟩, ⟨k0_dev84 c, k0_dev84_lt c⟩, ⟨k0_dev86 c, k0_dev86_lt c⟩,
    ⟨k0_dev88 c, k0_dev88_lt c⟩, ⟨k0_dev90 c, k0_dev90_lt c⟩, ⟨k0_dev92 c, k0_dev92_lt c⟩, ⟨k0_dev94 c, k0_dev94_lt c⟩,
    ⟨k0_dev96 c, k0_dev96_lt c⟩, ⟨k0_dev98 c, k0_dev98_lt c⟩, ⟨k0_dev100 c, k0_dev100_lt c⟩, ⟨k0_dev102 c, k0_dev102_lt c⟩,
    ⟨k0_dev103 c, k0_dev103_lt c⟩, ⟨k0_dev104 c, k0_dev104_lt c⟩, ⟨k0_dev105 c, k0_dev105_lt c⟩, ⟨k0_dev106 c, k0_dev106_lt c⟩,
    ⟨k0_dev107 c, k0_dev107_lt c⟩, ⟨k0_dev108 c, k0_dev108_lt c⟩, ⟨k0_dev109 c, k0_dev109_lt c⟩, ⟨k0_dev110 c, k0_dev110_lt c⟩]
/-- The receivers of the rounds' credits, from round 1 on. -/
def credTab (c : Dev nD) : List (Dev nD) :=
  [⟨k0_dev7 c, k0_dev7_lt c⟩, ⟨k0_dev9 c, k0_dev9_lt c⟩, ⟨k0_dev11 c, k0_dev11_lt c⟩, ⟨k0_dev13 c, k0_dev13_lt c⟩,
    ⟨k0_dev15 c, k0_dev15_lt c⟩, ⟨k0_dev17 c, k0_dev17_lt c⟩, ⟨k0_dev19 c, k0_dev19_lt c⟩, ⟨k0_dev21 c, k0_dev21_lt c⟩,
    ⟨k0_dev23 c, k0_dev23_lt c⟩, ⟨k0_dev25 c, k0_dev25_lt c⟩, ⟨k0_dev27 c, k0_dev27_lt c⟩, ⟨k0_dev29 c, k0_dev29_lt c⟩,
    ⟨k0_dev31 c, k0_dev31_lt c⟩, ⟨k0_dev33 c, k0_dev33_lt c⟩, ⟨k0_dev35 c, k0_dev35_lt c⟩, ⟨k0_dev37 c, k0_dev37_lt c⟩,
    ⟨k0_dev39 c, k0_dev39_lt c⟩, ⟨k0_dev41 c, k0_dev41_lt c⟩, ⟨k0_dev43 c, k0_dev43_lt c⟩, ⟨k0_dev45 c, k0_dev45_lt c⟩,
    ⟨k0_dev47 c, k0_dev47_lt c⟩, ⟨k0_dev49 c, k0_dev49_lt c⟩, ⟨k0_dev51 c, k0_dev51_lt c⟩, ⟨k0_dev53 c, k0_dev53_lt c⟩,
    ⟨k0_dev55 c, k0_dev55_lt c⟩, ⟨k0_dev57 c, k0_dev57_lt c⟩, ⟨k0_dev59 c, k0_dev59_lt c⟩, ⟨k0_dev61 c, k0_dev61_lt c⟩,
    ⟨k0_dev63 c, k0_dev63_lt c⟩, ⟨k0_dev65 c, k0_dev65_lt c⟩, ⟨k0_dev67 c, k0_dev67_lt c⟩, ⟨k0_dev69 c, k0_dev69_lt c⟩,
    ⟨k0_dev71 c, k0_dev71_lt c⟩, ⟨k0_dev73 c, k0_dev73_lt c⟩, ⟨k0_dev75 c, k0_dev75_lt c⟩, ⟨k0_dev77 c, k0_dev77_lt c⟩,
    ⟨k0_dev79 c, k0_dev79_lt c⟩, ⟨k0_dev81 c, k0_dev81_lt c⟩, ⟨k0_dev83 c, k0_dev83_lt c⟩, ⟨k0_dev85 c, k0_dev85_lt c⟩,
    ⟨k0_dev87 c, k0_dev87_lt c⟩, ⟨k0_dev89 c, k0_dev89_lt c⟩, ⟨k0_dev91 c, k0_dev91_lt c⟩, ⟨k0_dev93 c, k0_dev93_lt c⟩,
    ⟨k0_dev95 c, k0_dev95_lt c⟩, ⟨k0_dev97 c, k0_dev97_lt c⟩, ⟨k0_dev99 c, k0_dev99_lt c⟩, ⟨k0_dev101 c, k0_dev101_lt c⟩]
/-- The receivers of the exchange's copies, from partner 1 on. -/
def partTab (c : Dev nD) : List (Dev nD) :=
  [⟨k0_dev111 c, k0_dev111_lt c⟩, ⟨k0_dev112 c, k0_dev112_lt c⟩, ⟨k0_dev113 c, k0_dev113_lt c⟩, ⟨k0_dev114 c, k0_dev114_lt c⟩,
    ⟨k0_dev115 c, k0_dev115_lt c⟩, ⟨k0_dev116 c, k0_dev116_lt c⟩, ⟨k0_dev117 c, k0_dev117_lt c⟩, ⟨k0_dev118 c, k0_dev118_lt c⟩,
    ⟨k0_dev119 c, k0_dev119_lt c⟩, ⟨k0_dev120 c, k0_dev120_lt c⟩, ⟨k0_dev121 c, k0_dev121_lt c⟩, ⟨k0_dev122 c, k0_dev122_lt c⟩,
    ⟨k0_dev123 c, k0_dev123_lt c⟩, ⟨k0_dev124 c, k0_dev124_lt c⟩, ⟨k0_dev125 c, k0_dev125_lt c⟩]
/-- The receiver of message `s` on lane `ℓ`. -/
def sendTo (c : Dev nD) (s : ℕ) (ℓ : Fin 4) : Dev nD := (sendTab c).getD (4 * s + ℓ.val) c
/-- The receiver of the credit for message `n` on lane `ℓ`. -/
def credTo (c : Dev nD) (n : ℕ) (ℓ : Fin 4) : Dev nD := (credTab c).getD (4 * n + ℓ.val) c
/-- The receiver of the copy to partner `j`. -/
def partTo (c : Dev nD) (j : ℕ) : Dev nD := (partTab c).getD (j - 1) c

/-! ### Rounds -/

/-- One lane of round 0: the device's own product is the first message. -/
def lane0 (wm : Memref sig .tc .vmem S256x2048 .f32) (c : Dev nD) (ℓ : Fin 4) (x : Vec F S256x256 .f32) (k : P F) : P F :=
  loadW wm ℓ fun w => put ℓ (slot 0) (sendTo c 0 ℓ) (packV (prodV x w)) k

/-- The credit a lane gives in round `s`, while its sender still waits for one. -/
def creditIf (s : ℕ) (ℓ : Fin 4) (c : Dev nD) (k : P F) : P F :=
  if s ≤ 12 then credit ℓ (credTo c (s - 1) ℓ) k else k

/-- The waits before a slot is written again. -/
def freeIf (s : ℕ) (ℓ : Fin 4) (k : P F) : P F :=
  if 3 ≤ s then sent ℓ (slot s) (take ℓ k) else k

/-- One lane of round `s`, `1 ≤ s ≤ 14`: message `s - 1` comes in, message `s` goes out. -/
def laneN (wm : Memref sig .tc .vmem S256x2048 .f32) (c : Dev nD) (s : ℕ) (ℓ : Fin 4) (x : Vec F S256x256 .f32) (k : P F) : P F :=
  loadW wm ℓ fun w => recv ℓ (slot (s - 1)) fun r => creditIf s ℓ c (freeIf s ℓ
    (put ℓ (slot s) (sendTo c s ℓ) (packV (addV x w r)) k))

/-- One lane of round 15: message 14 comes in and the block is finished. -/
def laneZ (wm om : Memref sig .tc .vmem S256x2048 .f32) (ℓ : Fin 4) (x : Vec F S256x256 .f32) (k : F .f32 → P F) : P F :=
  loadW wm ℓ fun w => recv ℓ (slot 14) fun r => putOut om ℓ (addV x w r) (k (absMaxV (addV x w r)))

/-- The two blocks of rows that round `s` multiplies. -/
def loadX (xm : Memref sig .tc .vmem S4096x256 .f32) (c : Dev nD) (s : Fin 16) (k : Vec F S256x256 .f32 → Vec F S256x256 .f32 → P F) : P F :=
  .op (.load xm (rowR c s).toLoadRect (View.loadsAt_vmem h_S256x256)) fun xr =>
  .op (.load xm (rowL c s).toLoadRect (View.loadsAt_vmem h_S256x256)) fun xl => k xr xl

/-- Round 0. -/
def round0 (xm : Memref sig .tc .vmem S4096x256 .f32) (wm : Memref sig .tc .vmem S256x2048 .f32) (c : Dev nD) (k : P F) : P F :=
  loadX xm c 0 fun xr xl => lane0 wm c 0 xr (lane0 wm c 1 xl (lane0 wm c 2 xr (lane0 wm c 3 xl k)))

/-- Round `s`, `1 ≤ s ≤ 14`. -/
def roundN (xm : Memref sig .tc .vmem S4096x256 .f32) (wm : Memref sig .tc .vmem S256x2048 .f32) (c : Dev nD) (s : Fin 16) (k : P F) : P F :=
  loadX xm c s fun xr xl => laneN wm c s.val 0 xr (laneN wm c s.val 1 xl (laneN wm c s.val 2 xr (laneN wm c s.val 3 xl k)))

/-- The middle rounds, in order. -/
def rounds (xm : Memref sig .tc .vmem S4096x256 .f32) (wm : Memref sig .tc .vmem S256x2048 .f32) (c : Dev nD) : List (Fin 16) → P F → P F
  | [], k => k
  | s :: l, k => roundN xm wm c s (rounds xm wm c l k)

/-- Round 15. -/
def roundZ (xm : Memref sig .tc .vmem S4096x256 .f32) (wm om : Memref sig .tc .vmem S256x2048 .f32) (c : Dev nD)
    (k : FVec F S8x128 .f32 → P F) : P F :=
  loadX xm c 15 fun xr xl => laneZ wm om 0 xr fun m0 => laneZ wm om 1 xl fun m1 => laneZ wm om 2 xr fun m2 =>
    laneZ wm om 3 xl fun m3 => k (amaxV m0 m1 m2 m3)

/-! ### The exchange of the largest absolute values -/

/-- The device's own value goes to partner after partner. -/
def exchStart (c : Dev nD) : List (Fin 16) → P F → P F
  | [], k => k
  | j :: l, k => .op (.enqueueDma am (.remote (Dev.tc (partTo c j.val)) (partM j) (.dma (sem16 cc0_scratch18 j))) (.dma (sem16 cc0_scratch19 j))
      (Memref.isWhole_whole _).wordExact ((View.wordExact_bits rfl).reshape _ _) ⟨⟨rfl, Or.inl rfl⟩, trivial⟩) fun _ => exchStart c l k

/-- The last three copies of every lane have left. -/
def drain : List (Fin 4 × Fin 3) → P F → P F
  | [], k => k
  | (ℓ, j) :: l, k => sent ℓ j (drain l k)

/-- The partners' values come in, one by one, and are joined. -/
def exchJoin : List (Fin 16) → FVec F S8x128 .f32 → (FVec F S8x128 .f32 → P F) → P F
  | [], a, k => k a
  | j :: l, a, k => .op (.waitDma2 (sem16 cc0_scratch19 j) am (partM j) (Memref.isWhole_whole _).wordExact ((View.wordExact_bits rfl).reshape _ _)) fun _ =>
      .op (.load ar (partR j).toLoadRect (View.loadsAt_vmem h_S1x8x128)) fun r => exchJoin l (joinV a r) k

/-- The copies to the partners have left. -/
def exchSent : List (Fin 16) → P F → P F
  | [], k => k
  | j :: l, k => .op (.waitDma2 (sem16 cc0_scratch18 j) (partM j) am ((View.wordExact_bits rfl).reshape _ _) (Memref.isWhole_whole _).wordExact) fun _ =>
      exchSent l k

/-- The partners in the order the body meets them. -/
abbrev partners : List (Fin 16) := [1, 2, 3, 4, 5, 6, 7, 8, 9, 10, 11, 12, 13, 14, 15]
/-- The lanes' slots in the order the body drains them. -/
abbrev laneSlots : List (Fin 4 × Fin 3) :=
  [(0, 0), (0, 1), (0, 2), (1, 0), (1, 1), (1, 2), (2, 0), (2, 1), (2, 2), (3, 0), (3, 1), (3, 2)]

/-- The whole output block. -/
abbrev outR : Rect S256x2048 := Rect.unit (s := S256x2048) ![0, 0] S256x2048.size inb_S256x2048_S256x2048_0_0
/-- The whole row block of the exchange. -/
abbrev amR : Rect S8x128 := Rect.unit (s := S8x128) ![0, 0] S8x128.size inb_S8x128_S8x128_0_0

/-- The output block is read, quantised and written back. -/
def quantOut (om : Memref sig .tc .vmem S256x2048 .f32) (a : FVec F S8x128 .f32) : P F :=
  .op (.load om outR.toLoadRect (View.loadsAt_vmem h_S256x2048)) fun v =>
  .op (.load om outR.toLoadRect (View.loadsAt_vmem h_S256x2048)) fun _ =>
  .op (.store om outR (k0_pay1 (k0_pay163 a) v) Finset.univ (View.stores_vmem_bits_univ h_S256x2048 rfl) (.inl rfl)) fun _ => .ret ⟨⟩

/-- The device's own value stored. -/
def putAm (a : FVec F S8x128 .f32) (k : P F) : P F :=
  .op (.load am amR.toLoadRect (View.loadsAt_vmem h_S8x128)) fun _ =>
  .op (.store am amR a Finset.univ (View.stores_vmem_bits_univ h_S8x128 rfl) (.inl rfl)) fun _ => k

/-- From the device's own value to the end. -/
def exchange (om : Memref sig .tc .vmem S256x2048 .f32) (c : Dev nD) (a : FVec F S8x128 .f32) : P F :=
  putAm a (exchStart c partners (drain laneSlots
    (.op (.load am amR.toLoadRect (View.loadsAt_vmem h_S8x128)) fun (v : Vec F S8x128 .f32) =>
      exchJoin partners v fun b => exchSent partners (quantOut om b))))

/-- The entry handshake with both neighbours. -/
def handshake (c : Dev nD) (k : P F) : P F :=
  .op (.semSignal ((⟨k0_dev1 c, k0_dev1_lt c⟩ : Dev nD), .tc) bar.sem (1#32).toInt) fun _ =>
  .op (.semSignal ((⟨k0_dev2 c, k0_dev2_lt c⟩ : Dev nD), .tc) bar.sem (1#32).toInt) fun _ =>
  .op (.semWait bar.sem (2#32).toInt) fun _ => k

/-- The middle rounds' numbers. -/
abbrev midRounds : List (Fin 16) := [1, 2, 3, 4, 5, 6, 7, 8, 9, 10, 11, 12, 13, 14]

/-- The kernel's body, on a device that knows its number. -/
def bodyOn (xm : Memref sig .tc .vmem S4096x256 .f32) (wm om : Memref sig .tc .vmem S256x2048 .f32) (c : Dev nD) : P F :=
  handshake c (round0 xm wm c (rounds xm wm c midRounds (roundZ xm wm om c (exchange om c))))

/-- The kernel's body. -/
def bodyC (xm : Memref sig .tc .vmem S4096x256 .f32) (wm om : Memref sig .tc .vmem S256x2048 .f32) : P F :=
  .op .deviceId fun c => bodyOn xm wm om c

set_option maxRecDepth 100000 in
/-- The printed body is these rounds: both unfold to one sequence of operations. -/
theorem body_eq (xm : Memref sig .tc .vmem S4096x256 .f32) (hx : xm.IsWhole) (wm : Memref sig .tc .vmem S256x2048 .f32) (hw : wm.IsWhole)
    (om : Memref sig .tc .vmem S256x2048 .f32) (ho : om.IsWhole) :
    cc0_body_skel (F := F) xm hx wm hw om ho (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) cc0_scratch10 cc0_scratch11 cc0_scratch12 cc0_scratch13
      cc0_scratch14 cc0_scratch15 cc0_scratch16 cc0_scratch17 cc0_scratch18 cc0_scratch19 cc0_scratch20 cc0_scratch21 cc0_scratch22 cc0_scratch23
      = bodyC xm wm om := by
  chain_rfl

end Cert.KernelIdeal.Ring

end
-- ==== Proof.Common.lean ====
/-
# The protocol

For every semaphore of the kernel: who waits on it, who pays it, how much, and what a payment hands over.

* The barrier semaphore. Both neighbours pay one unit; a unit of device `e` hands over that `e` has opened its receive
  buffers (`Entered e`).
* A lane's receive semaphores, one per slot. The upstream neighbour pays a message's bytes, message after message; a
  payment hands over the slot holding the message, and that every device the message has passed has opened its buffers.
* A lane's send semaphores, one per slot. Paid by the device's own copies; a payment hands the send slot back.
* A lane's credit semaphore. The downstream neighbour pays a unit for each message it has read, up to the twelfth; the
  unit for message `n` hands over that the slots of messages `3`, …, `n + 3` are free. The units of one semaphore may be
  taken in any order, and a slot is freed while earlier units are still unread: so the slots themselves lie in
  invariants, and a unit carries the permanent fact that a slot was released for the given time.
* The exchange's semaphores. Partner `j`'s copy pays once, handing over its largest absolute value; the device's own copy
  hands back the share of the buffer it read.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Mathlib.Tactic.DeriveFintype

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release heard)

variable {F : FTy → Type} [FloatOps F]

/-! ### Who is next to whom -/

set_option backward.proofsInPublic true in
/-- The right neighbour. -/
def rgt (c : Dev nD) : Dev nD := ⟨(c.val + 1) % 16, Nat.mod_lt _ (by decide)⟩
set_option backward.proofsInPublic true in
/-- The left neighbour. -/
def lft (c : Dev nD) : Dev nD := ⟨(c.val + 15) % 16, Nat.mod_lt _ (by decide)⟩

/-- Lanes 0 and 2 go right, lanes 1 and 3 left: where lane `ℓ`'s messages go. -/
def dst (c : Dev nD) (ℓ : Fin 4) : Dev nD := if ℓ.val % 2 = 0 then rgt c else lft c
/-- Where lane `ℓ`'s messages come from. -/
def src (c : Dev nD) (ℓ : Fin 4) : Dev nD := if ℓ.val % 2 = 0 then lft c else rgt c

theorem src_dst : ∀ c ℓ, src (dst c ℓ) ℓ = c := by decide +kernel
theorem dst_src : ∀ c ℓ, dst (src c ℓ) ℓ = c := by decide +kernel
theorem dev1_eq : ∀ c, (⟨k0_dev1 c, k0_dev1_lt c⟩ : Dev nD) = lft c := by decide +kernel
theorem dev2_eq : ∀ c, (⟨k0_dev2 c, k0_dev2_lt c⟩ : Dev nD) = rgt c := by decide +kernel
theorem sendTo_eq : ∀ c (s : Fin 15) ℓ, sendTo c s.val ℓ = dst c ℓ := by decide +kernel
theorem credTo_eq : ∀ c (n : Fin 12) ℓ, credTo c n.val ℓ = src c ℓ := by decide +kernel

/-- Partner `j` of device `c`. -/
def par (c : Dev nD) (j : Fin 16) : Dev nD := if j = 0 then c else partTo c j.val
theorem par_par : ∀ c j, par (par c j) j = c := by decide +kernel
theorem par_ne : ∀ c (j : Fin 16), j ≠ 0 → partTo c j.val = par c j := by decide +kernel
theorem par_surj : ∀ c d, ∃ j, par c j = d := by decide +kernel

/-- The devices whose opening lane `ℓ` of device `c` knows of after `n` messages. -/
def hops (c : Dev nD) (ℓ : Fin 4) : ℕ → Finset (Dev nD)
  | 0 => {c}
  | n + 1 => {c} ∪ hops (src c ℓ) ℓ n
theorem hops_all : ∀ c ℓ, hops c ℓ 15 = Finset.univ := by decide +kernel
theorem self_mem_hops (c : Dev nD) (ℓ : Fin 4) : ∀ n, c ∈ hops c ℓ n
  | 0 => Finset.mem_singleton_self c
  | n + 1 => Finset.mem_union_left _ (Finset.mem_singleton_self c)

/-! ### Cells -/

/-- The kernel's own semaphores: sends and receives by lane and slot, credits by lane, the exchange by partner. -/
inductive CK
  | snd (ℓ : Fin 4) (k : Fin 3) | rcv (ℓ : Fin 4) (k : Fin 3) | crd (ℓ : Fin 4) | asn (j : Fin 16) | arc (j : Fin 16)
  deriving DecidableEq, Fintype

/-- Where each lies. -/
def osem : CK → SemLoc sig
  | .snd ℓ k => .dma (sem3 (ss ℓ) k)
  | .rcv ℓ k => .dma (sem3 (rs ℓ) k)
  | .crd ℓ => .reg (cs ℓ).sem
  | .asn j => .dma (sem16 cc0_scratch18 j)
  | .arc j => .dma (sem16 cc0_scratch19 j)
/-- With the barrier semaphore. -/
def csem : Option CK → SemLoc sig
  | none => .reg bar.sem
  | some k => osem k
theorem csem_inj : Function.Injective csem := by
  have h : ∀ a b, csem a = csem b → a = b := by decide +kernel
  exact fun a b => h a b

/-- The cell of device `c`. -/
abbrev cell (c : Dev nD) (k : CK) : GSem nD τ sig := ((c : Thread nD τ), csem (some k))
abbrev barCell (c : Dev nD) : GSem nD τ sig := ((c : Thread nD τ), csem none)
abbrev kcell (ck : Dev nD × Option CK) : GSem nD τ sig := ((ck.1 : Thread nD τ), csem ck.2)

/-- Which of them a semaphore is. -/
def kindOf (sm : SemLoc sig) : Option (Option CK) := Function.partialInv csem sm
theorem kindOf_csem (k : Option CK) : kindOf (csem k) = some k := Function.partialInv_left csem_inj k

/-! ### The ghost state's algebra -/

/-- What is released: a lane's receive slot, or a partner's slot of the exchange. -/
abbrev RK : Type := Dev nD × (Fin 4 × Fin 3 ⊕ Fin 16)
abbrev UB : Type := URounds (GSem nD τ sig) ℕ
abbrev UU : Type := UR sig nD τ × (UB × USlots RK)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots RK)).trans embR
abbrev EK : Emb (USlots RK) (MT nD τ sig ℕ (Elt F) ℕ UU ℕ) := (Emb.inr : Emb (USlots RK) (UB × USlots RK)).trans embR

/-- The bytes of one message, in the semaphores' count. -/
abbrev N : ℕ := (slotM (rb 0) 0).view.dmaCredit
/-- The bytes of one value of the exchange. -/
abbrev NA : ℕ := (partM 0).view.dmaCredit
theorem N_pos : 0 < N := View.dmaCredit_pos _ (by decide)
theorem NA_pos : 0 < NA := View.dmaCredit_pos _ (by decide)
theorem N_rb : ∀ ℓ k, (slotM (rb ℓ) k).view.dmaCredit = N := by
  intro ℓ k; fin_cases ℓ <;> rfl
theorem N_sb : ∀ ℓ k, (slotM (sb ℓ) k).view.dmaCredit = N := by
  intro ℓ k; fin_cases ℓ <;> rfl
theorem NA_ar : ∀ j, (partM j).view.dmaCredit = NA := by
  intro j; rfl
theorem NA_am : am.view.dmaCredit = NA := by rfl

/-! ### Contents -/

variable (X : Dev nD → (cc0_stg0_0 : Ref sig .tc).ty.Contents (Elt F)) (W : Dev nD → (cc0_stg1_0 : Ref sig .tc).ty.Contents (Elt F))

/-- The device's rows of `x` for lane `ℓ` in round `s`. -/
def xrow (c : Dev nD) (ℓ : Fin 4) (s : ℕ) : Vec F S256x256 .f32 :=
  if ℓ.val % 2 = 0 then (Memref.whole cc0_stg0_0 : Memref sig .tc .vmem S4096x256 .f32).view.readAt (Elt F) (rowR c (Fin.ofNat 16 s)).toLoadRect (X c)
  else (Memref.whole cc0_stg0_0 : Memref sig .tc .vmem S4096x256 .f32).view.readAt (Elt F) (rowL c (Fin.ofNat 16 s)).toLoadRect (X c)
/-- The device's columns of `w` for lane `ℓ`. -/
def wcol (c : Dev nD) (ℓ : Fin 4) : Vec F S256x512 .f32 :=
  (Memref.whole cc0_stg1_0 : Memref sig .tc .vmem S256x2048 .f32).view.readAt (Elt F) (colR ℓ).toLoadRect (W c)

/-- The sum device `c` has on lane `ℓ` in round `s`. -/
def acc (ℓ : Fin 4) : ℕ → Dev nD → FVec F S256x512 .f32
  | 0, c => prodV (xrow X c ℓ 0) (wcol W c ℓ)
  | s + 1, c => addf (prodV (xrow X c ℓ (s + 1)) (wcol W c ℓ)) (extf .f32 (truncf .bf16 (acc ℓ s (src c ℓ)) bitsLt_bf16_f32 : FVec F S256x512 .bf16) bitsLt_bf16_f32)
/-- Message `i` of device `c` on lane `ℓ`. -/
def msg (ℓ : Fin 4) (i : ℕ) (c : Dev nD) : FVec F S256x512 .bf16 := truncf .bf16 (acc X W ℓ i c) bitsLt_bf16_f32
/-- The device's own largest absolute value. -/
def amx (c : Dev nD) : FVec F S8x128 .f32 :=
  amaxV (absMaxV (acc X W 0 15 c)) (absMaxV (acc X W 1 15 c)) (absMaxV (acc X W 2 15 c)) (absMaxV (acc X W 3 15 c))

/-! ### What the payments hand over -/

/-- The part of a buffer that a memref names, on device `c`, with contents `f`. -/
abbrev at_ {s : Shape} {e : EltTy} (c : Dev nD) (M : Memref sig .tc .vmem s e) (q : PosShare TreeShare) (f : Buf (Elt F) (M.view.loc (c : Thread nD τ))) : sProp 𝕄 :=
  iprop(M.view.loc (c : Thread nD τ) ↦[M.view.set]{q} f)
/-- With any contents. -/
def any_ {s : Shape} {e : EltTy} (c : Dev nD) (M : Memref sig .tc .vmem s e) : sProp 𝕄 := iprop(∃ f, at_ (F := F) c M fullShare f)
/-- Holding the value `v`. -/
def holds {s : Shape} {e : EltTy} (c : Dev nD) (M : Memref sig .tc .vmem s e) (q : PosShare TreeShare) (v : s.Idx → Elt F e) : sProp 𝕄 :=
  iprop(∃ f, ⌜M.view.read (Elt F) f = v⌝ ∗ at_ (F := F) c M q f)

omit [FloatOps F] in
instance any_storable {s : Shape} {e : EltTy} (c : Dev nD) (M : Memref sig .tc .vmem s e) : BI.Storable (upEmb : UEmb _ 𝕄) (any_ (F := F) c M) := by
  unfold any_; infer_instance
omit [FloatOps F] in
instance holds_storable {s : Shape} {e : EltTy} (c : Dev nD) (M : Memref sig .tc .vmem s e) (q : PosShare TreeShare) (v : s.Idx → Elt F e) :
    BI.Storable (upEmb : UEmb _ 𝕄) (holds (F := F) c M q v) := by unfold holds; infer_instance
omit [FloatOps F] in
theorem holds_any {s : Shape} {e : EltTy} (c : Dev nD) (M : Memref sig .tc .vmem s e) (v : s.Idx → Elt F e) :
    holds (F := F) c M fullShare v ⊢ any_ (F := F) c M := by
  unfold holds any_
  iintro ⟨%f, -, H⟩; iexists f; iexact H
omit [FloatOps F] in
/-- Two owners of one place at the full share cannot be. -/
theorem any_any_false {s : Shape} {e : EltTy} (c : Dev nD) (M : Memref sig .tc .vmem s e) (h : M.view.set.Nonempty) :
    iprop(any_ (F := F) c M ∗ any_ (F := F) c M) ⊢ (False : sProp 𝕄) := by
  unfold any_
  exact Release.slot_slot_false (ℓ := M.view.loc (c : Thread nD τ)) h

/-- The key of message `i`'s slot on lane `ℓ` of the receiver `d`. -/
abbrev rkey (d : Dev nD) (ℓ : Fin 4) (k : Fin 3) : RK := (d, .inl (ℓ, k))
abbrev akey (d : Dev nD) (j : Fin 16) : RK := (d, .inr j)

/-- The place of a key. -/
def keyPlace : RK → sProp 𝕄
  | (d, .inl (ℓ, k)) => any_ (F := F) d (slotM (rb ℓ) k)
  | (d, .inr j) => any_ (F := F) d (partM j)
omit [FloatOps F] in
instance keyPlace_storable (x : RK) : BI.Storable (upEmb : UEmb _ 𝕄) (keyPlace (F := F) x) := by
  rcases x with ⟨d, ⟨ℓ, k⟩ | j⟩ <;> (unfold keyPlace; infer_instance)

/-- The slot of message `i` on lane `ℓ` of device `d` is free. -/
def ready (d : Dev nD) (ℓ : Fin 4) (i : ℕ) : sProp 𝕄 :=
  iprop(released (EK (F := F)) (rkey d ℓ (slot i)) (i / 3 + 1) ∗ reached (ER (F := F)) (cell d (.rcv ℓ (slot i))) (i / 3))
omit [FloatOps F] in
instance ready_pers (d : Dev nD) (ℓ : Fin 4) (i : ℕ) : BI.Persistent (ready (F := F) d ℓ i) := by unfold ready; infer_instance
omit [FloatOps F] in
instance ready_storable (d : Dev nD) (ℓ : Fin 4) (i : ℕ) : BI.Storable (upEmb : UEmb _ 𝕄) (ready (F := F) d ℓ i) := by unfold ready; infer_instance

/-- Device `e` has opened its receive buffers. -/
def Entered (e : Dev nD) : sProp 𝕄 :=
  iprop(bigSep Finset.univ (fun x : Fin 4 × Fin 3 => released (EK (F := F)) (rkey e x.1 x.2) 1) ∗ bigSep Finset.univ (fun j : Fin 16 => released (EK (F := F)) (akey e j) 1))
omit [FloatOps F] in
instance entered_pers (e : Dev nD) : BI.Persistent (Entered (F := F) e) := by unfold Entered; infer_instance
omit [FloatOps F] in
instance entered_storable (e : Dev nD) : BI.Storable (upEmb : UEmb _ 𝕄) (Entered (F := F) e) := by unfold Entered; infer_instance

/-- The slots of messages `3`, …, `n + 3` of device `d`'s lane `ℓ` are free. -/
def readyTo (d : Dev nD) (ℓ : Fin 4) (n : ℕ) : sProp 𝕄 := bigSep (Finset.range n) (fun i => ready (F := F) d ℓ (i + 3))
omit [FloatOps F] in
instance readyTo_pers (d : Dev nD) (ℓ : Fin 4) (i : ℕ) : BI.Persistent (readyTo (F := F) d ℓ i) := by unfold readyTo; infer_instance
omit [FloatOps F] in
instance readyTo_storable (d : Dev nD) (ℓ : Fin 4) (i : ℕ) : BI.Storable (upEmb : UEmb _ 𝕄) (readyTo (F := F) d ℓ i) := by unfold readyTo; infer_instance

/-- The share of the device's own value that the copy to partner `j` reads, and what is left after `n` copies. -/
def shRem : ℕ → PosShare TreeShare
  | 0 => fullShare
  | n + 1 => (shRem n).right
def shPiece (n : ℕ) : PosShare TreeShare := (shRem n).left

/-- What a payment hands over. -/
def pay (c : Dev nD) : Option CK → ℕ → ℕ → sProp 𝕄
  | none, _, d => Entered (F := F) (if d = 0 then lft c else rgt c)
  | some (.snd ℓ k), _, _ => any_ (F := F) c (slotM (sb ℓ) k)
  | some (.rcv ℓ k), r, _ => iprop(holds (F := F) c (slotM (rb ℓ) k) fullShare (msg X W ℓ (3 * r + k.val) (src c ℓ))
      ∗ heard (Entered (F := F)) (hops (src c ℓ) ℓ (3 * r + k.val)))
  | some (.crd ℓ), _, n => readyTo (F := F) (dst c ℓ) ℓ (n + 1)
  | some (.asn j), _, _ => at_ (F := F) c am (shPiece (j.val - 1)) (amx X W c)
  | some (.arc j), _, _ => holds (F := F) c (partM j) fullShare (amx X W (par c j))

instance pay_storable (c : Dev nD) (k : Option CK) (r d : ℕ) : BI.Storable (upEmb : UEmb _ 𝕄) (pay (F := F) X W c k r d) := by
  rcases k with _ | (_ | _ | _ | _ | _) <;> (unfold pay; infer_instance)

/-! ### The schedule -/

/-- The payments of a round. -/
def duties : Option CK → ℕ → Finset ℕ
  | none, r => if r = 0 then {0, 1} else ∅
  | some (.snd _ _), r => if r < 5 then {0} else ∅
  | some (.rcv _ _), r => if r < 5 then {0} else ∅
  | some (.crd _), r => if r = 0 then Finset.range 12 else ∅
  | some (.asn j), r => if r = 0 ∧ j ≠ 0 then {0} else ∅
  | some (.arc j), r => if r = 0 ∧ j ≠ 0 then {0} else ∅
/-- How much each pays. -/
def amt : Option CK → ℕ
  | none => 1
  | some (.snd _ _) => N
  | some (.rcv _ _) => N
  | some (.crd _) => 1
  | some (.asn _) => NA
  | some (.arc _) => NA
theorem amt_pos : ∀ k, 0 < amt k
  | none => Nat.one_pos
  | some (.snd _ _) => N_pos
  | some (.rcv _ _) => N_pos
  | some (.crd _) => Nat.one_pos
  | some (.asn _) => NA_pos
  | some (.arc _) => NA_pos

/-- The kernel's schedule. -/
def Rd : Rounds.Schedule (GSem nD τ sig) ℕ 𝕄 where
  duties g r := match kindOf g.2 with
    | some k => if g.1.2 = .tc then duties k r else ∅
    | none => ∅
  unitless _ := False
  amount g _ _ := match kindOf g.2 with
    | some k => amt k
    | none => 1
  payload g r d := match kindOf g.2 with
    | some k => pay X W g.1.1 k r d
    | none => iprop(emp)
  amount_pos g _ _ _ := by
    split
    · exact amt_pos _
    · exact Nat.one_pos

instance Rd_storable (g : GSem nD τ sig) (r : ℕ) (d : ℕ) : BI.Storable (upEmb : UEmb _ 𝕄) ((Rd (F := F) X W).payload g r d) := by
  dsimp only [Rd]
  split <;> infer_instance

theorem Rd_duties (c : Dev nD) (k : Option CK) (r : ℕ) : (Rd (F := F) X W).duties ((c : Thread nD τ), csem k) r = duties k r := by
  dsimp only [Rd]; rw [kindOf_csem]; exact if_pos rfl
theorem Rd_amount (c : Dev nD) (k : Option CK) (r d : ℕ) : (Rd (F := F) X W).amount ((c : Thread nD τ), csem k) r d = amt k := by
  dsimp only [Rd]; rw [kindOf_csem]
theorem Rd_payload (c : Dev nD) (k : Option CK) (r d : ℕ) : (Rd (F := F) X W).payload ((c : Thread nD τ), csem k) r d = pay X W c k r d := by
  dsimp only [Rd]; rw [kindOf_csem]
theorem Rd_expect (c : Dev nD) (k : Option CK) (r : ℕ) : (Rd (F := F) X W).expect ((c : Thread nD τ), csem k) r = (duties k r).card * amt k := by
  unfold Schedule.expect Schedule.amountOf
  rw [Rd_duties, Finset.sum_congr rfl fun d _ => Rd_amount X W c k r d, Finset.sum_const, smul_eq_mul]

/-! ### What is owed, and the levels -/

/-- What lane `ℓ` of device `c` still owes after `p` messages and `q` credits. -/
def owe (c : Dev nD) (ℓ : Fin 4) (p q : ℕ) : CellTallies nD τ sig ℕ :=
  (∑ i ∈ Finset.Ico p 15, tallyAt (cell (dst c ℓ) (.rcv ℓ (slot i))) i N) + ∑ n ∈ Finset.Ico q 12, tallyAt (cell (src c ℓ) (.crd ℓ)) n 1
/-- What the exchange still owes before the copy to partner `j`. -/
def oweA (c : Dev nD) (j : ℕ) : CellTallies nD τ sig ℕ :=
  ∑ i ∈ Finset.Ico j 16, tallyAt (cell (par c (Fin.ofNat 16 i)) (.arc (Fin.ofNat 16 i))) 0 NA

/-- The cells' indices: the messages' numbers. -/
def L (g : GSem nD τ sig) : Finset ℕ := if g.1.2 = .tc then Finset.range 16 else ∅
/-- The levels: a message is above the credits that let it leave and the message before it. -/
def lvK : Option CK → ℕ → ℕ
  | none, _ => 1
  | some (.snd _ _), _ => 0
  | some (.rcv _ _), i => 2 * i + 2
  | some (.crd _), n => 2 * n + 3
  | some (.asn _), _ => 0
  | some (.arc _), _ => 1000
def lv (g : GSem nD τ sig) (u : ℕ) : ℕ := match kindOf g.2 with
  | some k => lvK k u
  | none => 0
theorem lv_csem (c : Dev nD) (k : Option CK) (u : ℕ) : lv ((c : Thread nD τ), csem k) u = lvK k u := by
  dsimp only [lv]; rw [kindOf_csem]
theorem L_of_ne (g : GSem nD τ sig) (h : g.1.2 ≠ .tc) : L g = ∅ := if_neg h
theorem L_tc (c : Dev nD) (sm : SemLoc sig) : L ((c : Thread nD τ), sm) = Finset.range 16 := if_pos rfl

/-- Everything owed in `O` is above level `l`. -/
def Above (l : ℕ) (O : CellTallies nD τ sig ℕ) : Prop := ∀ g u, 0 < O g u → u ∈ L g ∧ l < lv g u

theorem Above.zero (l : ℕ) : Above l 0 := fun g u h => absurd h (Nat.lt_irrefl 0)
theorem Above.add {l : ℕ} {O O' : CellTallies nD τ sig ℕ} (h : Above l O) (h' : Above l O') : Above l (O + O') := fun g u hg => by
  rw [Pi.add_apply, Finsupp.add_apply] at hg
  rcases Nat.eq_zero_or_pos (O g u) with h0 | h0
  · rw [h0, Nat.zero_add] at hg; exact h' g u hg
  · exact h g u h0
theorem Above.tally {l n : ℕ} (c : Dev nD) (k : Option CK) (u : ℕ) (hu : u < 16) (hl : l < lvK k u) :
    Above l (tallyAt ((c : Thread nD τ), csem k) u n) := fun g v hg => by
  rw [tallyAt_apply] at hg
  by_cases h : g = ((c : Thread nD τ), csem k) ∧ v = u
  · obtain ⟨rfl, rfl⟩ := h
    exact ⟨by rw [L_tc]; exact Finset.mem_range.mpr hu, by rw [lv_csem]; exact hl⟩
  · rw [if_neg h] at hg; exact absurd hg (Nat.lt_irrefl 0)
theorem Above.sum {l : ℕ} {I : Type} (s : Finset I) (O : I → CellTallies nD τ sig ℕ) (h : ∀ i ∈ s, Above l (O i)) : Above l (∑ i ∈ s, O i) := by
  classical
  induction s using Finset.induction_on with
  | empty => rw [Finset.sum_empty]; exact Above.zero l
  | insert a s ha ih =>
    rw [Finset.sum_insert ha]
    exact (h a (Finset.mem_insert_self a s)).add (ih fun i hi => h i (Finset.mem_insert_of_mem hi))
theorem Above.mono {l l' : ℕ} {O : CellTallies nD τ sig ℕ} (h : Above l O) (hl : l' ≤ l) : Above l' O :=
  fun g u hg => ⟨(h g u hg).1, lt_of_le_of_lt hl (h g u hg).2⟩
theorem above_owe (c : Dev nD) (ℓ : Fin 4) (p q l : ℕ) (hp : l < 2 * p + 2) (hq : l < 2 * q + 3) : Above l (owe c ℓ p q) := by
  refine (Above.sum _ _ fun i hi => ?_).add (Above.sum _ _ fun n hn => ?_)
  · have := Finset.mem_Ico.mp hi
    exact Above.tally _ (some (.rcv ℓ (slot i))) _ (by omega) (show l < 2 * i + 2 by omega)
  · have := Finset.mem_Ico.mp hn
    exact Above.tally _ (some (.crd ℓ)) _ (by omega) (show l < 2 * n + 3 by omega)
theorem above_oweA (c : Dev nD) (j l : ℕ) (hl : l < 1000) : Above l (oweA c j) :=
  Above.sum _ _ fun i hi => Above.tally _ (some (.arc _)) _ (by decide) hl

omit [FloatOps F] in
/-- A wait at a level below everything owed. -/
theorem mayWait_of_above (c : Dev nD) (k : Option CK) (u l : ℕ) (hu : u < 16) (hl : lvK k u ≤ l) (O : CellTallies nD τ sig ℕ) (h : Above l O) :
    (levAts L lv : sProp 𝕄) ⊢ MayWait (c : Thread nD τ) (csem k) u O :=
  MayOwe.of_cut (L := L) (lev := lv) l (fun p hp => by rw [Finset.mem_singleton.mp hp, L_tc]; exact Finset.mem_range.mpr hu)
    (fun g u hg => (h g u hg).1) (fun p hp => by rw [Finset.mem_singleton.mp hp, lv_csem]; exact hl) (fun g u hg => (h g u hg).2)

end Cert.KernelIdeal.Ring

end
-- ==== Proof.Lane.lean ====
/-
# The operations of one lane

The state of a lane is told by counters: `p` messages put, `f` send slots freed, `g` messages received, `q` credits given and
`m` credits taken. Everything the lane holds is a window of message numbers between two of them, and each operation moves
one counter by one.
-/
module

public import proofs.«01_k».proof.Proof.Common
public import Idealize.ShloMosaic.Lib.Pipeline.Value

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release heard)

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-! ### Windows -/

omit [FloatOps F] in
/-- A window loses its first number. -/
theorem win_pop {a b : ℕ} (h : a < b) (Φ : ℕ → sProp 𝕄) :
    bigSep (Finset.Ico a b) Φ = iprop(Φ a ∗ bigSep (Finset.Ico (a + 1) b) Φ) := by
  rw [show Finset.Ico a b = insert a (Finset.Ico (a + 1) b) by ext x; simp only [Finset.mem_Ico, Finset.mem_insert]; omega,
    bigSep_insert (by simp)]; rfl
omit [FloatOps F] in
/-- A window gains a last number. -/
theorem win_push {a b : ℕ} (h : a ≤ b) (Φ : ℕ → sProp 𝕄) :
    bigSep (Finset.Ico a (b + 1)) Φ = iprop(Φ b ∗ bigSep (Finset.Ico a b) Φ) := by
  rw [show Finset.Ico a (b + 1) = insert b (Finset.Ico a b) by ext x; simp only [Finset.mem_Ico, Finset.mem_insert]; omega,
    bigSep_insert (by simp)]; rfl
theorem slot_add (i : ℕ) : slot (i + 3) = slot i := Fin.ext (by simp [slot])
theorem div_add (i : ℕ) : (i + 3) / 3 = i / 3 + 1 := by omega
theorem slot_div (i : ℕ) : 3 * (i / 3) + (slot i).val = i := by simp only [slot]; omega

/-! ### Everything known to all -/

/-- The cells' and the slots' invariants, and the levels. -/
def recs (KN : Dev nD × Option CK → ℕ) (KS : RK → ℕ) : sProp 𝕄 :=
  iprop(bigSep Finset.univ (fun x : Dev nD × Option CK => cellInv (ER (F := F)) (Rd X W) (KN x) (kcell x))
    ∗ bigSep Finset.univ (fun x : Dev nD × Option CK => reached (ER (F := F)) (kcell x) 0)
    ∗ bigSep Finset.univ (fun k : RK => slotInv (EK (F := F)) (KS k) k (keyPlace k))
    ∗ levAts L lv)

variable (KN : Dev nD × Option CK → ℕ) (KS : RK → ℕ)

instance recs_pers : BI.Persistent (recs (F := F) X W KN KS) := by unfold recs; infer_instance
theorem recs_cell (c : Dev nD) (k : Option CK) : recs (F := F) X W KN KS ⊢ cellInv (ER (F := F)) (Rd X W) (KN (c, k)) ((c : Thread nD τ), csem k) := by
  unfold recs
  iintro ⟨H, -, -, -⟩
  have h : bigSep Finset.univ (fun x : Dev nD × Option CK => cellInv (ER (F := F)) (Rd X W) (KN x) (kcell x))
      ⊢ cellInv (ER (F := F)) (Rd X W) (KN (c, k)) ((c : Thread nD τ), csem k) := bigSep_elim (Finset.mem_univ (c, k))
  iapply h $$ H
theorem recs_reached (c : Dev nD) (k : Option CK) : recs (F := F) X W KN KS ⊢ reached (ER (F := F)) ((c : Thread nD τ), csem k) 0 := by
  unfold recs
  iintro ⟨-, H, -, -⟩
  have h : bigSep Finset.univ (fun x : Dev nD × Option CK => reached (ER (F := F)) (kcell x) 0)
      ⊢ reached (ER (F := F)) ((c : Thread nD τ), csem k) 0 := bigSep_elim (Finset.mem_univ (c, k))
  iapply h $$ H
theorem recs_slot (k : RK) : recs (F := F) X W KN KS ⊢ slotInv (EK (F := F)) (KS k) k (keyPlace k) := by
  unfold recs
  iintro ⟨-, -, H, -⟩
  have h : bigSep Finset.univ (fun k : RK => slotInv (EK (F := F)) (KS k) k (keyPlace k)) ⊢ slotInv (EK (F := F)) (KS k) k (keyPlace k) :=
    bigSep_elim (Finset.mem_univ k)
  iapply h $$ H
theorem recs_lev : recs (F := F) X W KN KS ⊢ levAts L lv := by
  unfold recs
  iintro ⟨-, -, -, H⟩
  iexact H

/-- What a device owes, whatever it has waited for. -/
def OW (c : Dev nD) (O : CellTallies nD τ sig ℕ) : sProp 𝕄 := iprop(∃ Ws, owes (c : Thread nD τ) O Ws)

abbrev 𝒱₀ : Variants := Variants.none

/-- Program `p` runs on device `c` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ### The operations on cells -/

/-- A wait for a round of one payment. -/
theorem wait_one (c : Dev nD) (k : CK) (r u l : ℕ) (hd : duties (some k) r = {0}) (hu : u < 16) (hl : lvK (some k) u ≤ l)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (osem k) (amt (some k)) K)
    (O : CellTallies nD τ sig ℕ) (hO : Above l O) {α : Type} (K : PUnit → Prog (TpuEff nD τ sig (Elt F) Λ₀ .tc) α) (Q : α → sProp 𝕄) :
    iprop(recs (F := F) X W KN KS ∗ cred (tallyAt (cell c k) u (amt (some k))) ∗ OW c O ∗ atPos (ER (F := F)) (cell c k) r ∅ 0)
      ⊢ iprop((OW c O ∗ atPos (ER (F := F)) (cell c k) (r + 1) ∅ 0 ∗ reached (ER (F := F)) (cell c k) (r + 1) ∗ pay X W c (some k) r 0 -∗ WP c (K ⟨⟩) Q)
        -∗ WP c (.op w K) Q) := by
  unfold OW
  iintro ⟨#HR, Hc, ⟨%Ws, HO⟩, Hat⟩ Hk
  ihave #Hlev := (recs_lev X W KN KS) $$ HR
  ihave #HI := (recs_cell X W KN KS c (some k)) $$ HR
  iapply (Rounds.wp_wait_rest_token 𝒱₀ ER (Rd X W) (c : Thread nD τ) none (κ := KN (c, some k)) hw (Set.mem_univ _) u (O := O) (W := Ws)
      (R := r) (m := 0) (T := ∅) (sm := osem k) (by rw [Nat.zero_add]; exact ((Rd_expect X W c (some k) r).trans (by rw [hd, Finset.card_singleton, one_mul])).symm)) $$ [Hc HO Hat]
  · isplitr; · iexact HI
    isplitl [Hc]; · iexact Hc
    isplitl [HO]; · iexact HO
    isplitr; · iapply (mayWait_of_above c (some k) u l hu hl O hO); iexact Hlev
    iexact Hat
  iintro ⟨HO, Hat, Hr, Hpay⟩
  iapply Hk
  isplitl [HO]; · iexists _; iexact HO
  isplitl [Hat]; · iexact Hat
  isplitl [Hr]; · iexact Hr
  have hp : bigSep ((Rd (F := F) X W).duties ((c : Thread nD τ), osem k) r \ ∅) (fun d => (Rd (F := F) X W).payload ((c : Thread nD τ), osem k) r d)
      = pay X W c (some k) r 0 := by
    change bigSep ((Rd (F := F) X W).duties (cell c k) r \ ∅) (fun d => (Rd (F := F) X W).payload (cell c k) r d) = _
    rw [Finset.sdiff_empty, Rd_duties, hd, bigSep_singleton, Rd_payload]
  ihave Hp := (Entails.of_eq hp) $$ Hpay
  iexact Hp

/-- A copy of a whole memref to another device's, which the sender owns there. -/
theorem send_one {s : Shape} {e : EltTy} (c d : Dev nD) (ks kr : CK) (rs' rr ur : ℕ) (hds : 0 ∈ duties (some ks) rs') (hdr : 0 ∈ duties (some kr) rr)
    {srcM dstM : Memref sig .tc .vmem s e} (n : Dev nD) (hn : n = d) {sS sR : DmaSem sig} (hsS : osem ks = .dma sS) (hsR : osem kr = .dma sR)
    {hsrc : srcM.view.WordExact} {hdst : dstM.view.WordExact}
    {hsc : dstM.view.ref.isScScratch = false}
    {hsem : DmaTarget.Typed .vmem (.dma sR) (.remote (Dev.tc n : Thread nD τ) dstM (.dma sS) hsc)}
    (hN : dstM.view.amount (.dma sR) = amt (some kr)) (hNs : amt (some ks) = amt (some kr))
    (q : PosShare TreeShare) (fs : Buf (Elt F) (srcM.view.loc (c : Thread nD τ)))
    (F' : sProp 𝕄) (O : CellTallies nD τ sig ℕ)
    (hpay₁ : at_ c srcM q fs ⊢ pay X W c (some ks) rs' 0)
    (hpay₂ : ∀ fd, iprop(at_ d dstM fullShare (dstM.view.write (Elt F) fd (srcM.view.read (Elt F) fs) Finset.univ) ∗ F') ⊢ pay X W d (some kr) rr 0)
    {α : Type} (K : PUnit → Prog (TpuEff nD τ sig (Elt F) Λ₀ .tc) α) (Q : α → sProp 𝕄) :
    iprop(recs (F := F) X W KN KS ∗ at_ c srcM q fs ∗ any_ d dstM ∗ F' ∗ OW c (O + tallyAt (cell d kr) ur (amt (some kr)))
        ∗ dutyTok (ER (F := F)) (cell c ks) rs' 0 ∗ reached (ER (F := F)) (cell c ks) rs'
        ∗ dutyTok (ER (F := F)) (cell d kr) rr 0 ∗ reached (ER (F := F)) (cell d kr) rr)
      ⊢ iprop((cred (tallyAt (cell c ks) 0 (amt (some ks))) ∗ OW c O -∗ WP c (K ⟨⟩) Q)
        -∗ WP c (.op (.enqueueDma srcM (.remote (Dev.tc n) dstM (.dma sS) hsc) (.dma sR) hsrc hdst hsem) K) Q) := by
  subst hn
  unfold OW any_
  iintro ⟨#HR, Hs, ⟨%fd, Hd⟩, HF, ⟨%Ws, HO⟩, HtS, HrS, HtR, HrR⟩ Hk
  have e1 : (cell c ks) = ((c : Thread nD τ), (SemLoc.dma sS : SemLoc sig)) := congrArg (Prod.mk _) hsS
  have e2 : (cell n kr) = ((n : Thread nD τ), (SemLoc.dma sR : SemLoc sig)) := congrArg (Prod.mk _) hsR
  have E1 := Rd_duties (F := F) X W c (some ks) rs'
  have E2 := Rd_duties (F := F) X W n (some kr) rr
  have A1 := Rd_amount (F := F) X W c (some ks) rs' 0
  have A2 := Rd_amount (F := F) X W n (some kr) rr 0
  have P1 := Rd_payload (F := F) X W c (some ks) rs' 0
  have P2 := Rd_payload (F := F) X W n (some kr) rr 0
  ihave #HIs := (recs_cell X W KN KS c (some ks)) $$ HR
  ihave #HIr := (recs_cell X W KN KS n (some kr)) $$ HR
  dsimp only [cell] at e1 e2
  rw [e1] at E1 A1 P1
  rw [e2] at E2 A2 P2
  dsimp only [cell]
  rw [e1, e2]
  iapply (Rounds.wp_send_pointsTo_with 𝒱₀ ER (Rd X W) (c : Thread nD τ) none (κ₁ := KN (c, some ks)) (κ₂ := KN (n, some kr))
    (r₁ := rs') (r₂ := rr) (d₁ := 0) (d₂ := 0) (fd := fd) (fs := fs) (q := q) (F := F')
    (by rw [E1]; exact hds) (by rw [E2]; exact hdr) ur 0 (amt (some kr)) hN (A1.trans hNs) A2 O rfl (W := Ws)
    (by rw [P1]; exact hpay₁) (by rw [P2]; exact hpay₂ fd)) $$ [Hs Hd HF HO HtS HrS HtR HrR]
  · isplitr; · iexact HIs
    isplitr; · iexact HIr
    isplitl [Hs]; · iexact Hs
    isplitl [Hd HF]
    · isplitl [Hd]; · iexact Hd
      iexact HF
    isplitl [HO]; · iexact HO
    isplitl [HtS]; · iexact HtS
    isplitl [HrS]; · iexact HrS
    isplitl [HtR]; · iexact HtR
    iexact HrR
  iintro ⟨Hc, HO⟩
  iapply Hk
  isplitl [Hc]; · rw [hNs]; iexact Hc
  iexists Ws; iexact HO

/-! ### A lane's windows -/

section Windows
variable (c : Dev nD) (ℓ : Fin 4)

/-- What a message's departure needs: its two payments and its write of the receiver's slot. -/
def sendTok (i : ℕ) : sProp 𝕄 :=
  iprop(dutyTok (ER (F := F)) (cell c (.snd ℓ (slot i))) (i / 3) 0 ∗ dutyTok (ER (F := F)) (cell (dst c ℓ) (.rcv ℓ (slot i))) (i / 3) 0
    ∗ writeTok (EK (F := F)) (rkey (dst c ℓ) ℓ (slot i)) (i / 3 + 1))
/-- Message `i`'s send slot. -/
def slotS (i : ℕ) : sProp 𝕄 := any_ (F := F) c (slotM (sb ℓ) (slot i))
/-- The right to wait for message `i`'s departure. -/
def credS (i : ℕ) : sProp 𝕄 := cred (tallyAt (cell c (.snd ℓ (slot i))) 0 N)
/-- The position before the wait for message `i`'s departure. -/
def posS (i : ℕ) : sProp 𝕄 :=
  iprop(atPos (ER (F := F)) (cell c (.snd ℓ (slot i))) (i / 3) ∅ 0 ∗ reached (ER (F := F)) (cell c (.snd ℓ (slot i))) (i / 3))
/-- The right to wait for message `i`'s arrival. -/
def credR (i : ℕ) : sProp 𝕄 := cred (tallyAt (cell c (.rcv ℓ (slot i))) i N)
/-- The position before the wait for message `i`'s arrival. -/
def posR (i : ℕ) : sProp 𝕄 :=
  iprop(atPos (ER (F := F)) (cell c (.rcv ℓ (slot i))) (i / 3) ∅ 0 ∗ reached (ER (F := F)) (cell c (.rcv ℓ (slot i))) (i / 3))
/-- Message `i`'s receive slot, and that the next message may come. -/
def slotQ (i : ℕ) : sProp 𝕄 :=
  iprop(any_ (F := F) c (slotM (rb ℓ) (slot i)) ∗ reached (ER (F := F)) (cell c (.rcv ℓ (slot i))) (i / 3 + 1))
/-- The reader's count before it frees message `i`'s slot. -/
def rdrQ (i : ℕ) : sProp 𝕄 := readerAt (EK (F := F)) (rkey c ℓ (slot i)) (i / 3 + 1)
/-- The payment of credit `n`. -/
def tokQ (n : ℕ) : sProp 𝕄 := dutyTok (ER (F := F)) (cell (src c ℓ) (.crd ℓ)) 0 n
/-- The right to take credit `m`. -/
def credM (m : ℕ) : sProp 𝕄 := cred (tallyAt (cell c (.crd ℓ)) m 1)

/-- The sending side after `p` messages put and `f` freed. -/
def SendSt (p f : ℕ) : sProp 𝕄 :=
  iprop(bigSep (Finset.Ico p 15) (sendTok (F := F) c ℓ) ∗ bigSep (Finset.Ico p (f + 3)) (slotS (F := F) c ℓ)
    ∗ bigSep (Finset.Ico f p) (credS (F := F) c ℓ) ∗ bigSep (Finset.Ico f (f + 3)) (posS (F := F) c ℓ))
/-- The receiving side after `g` messages received, `q` of them freed. -/
def RecvSt (q g : ℕ) : sProp 𝕄 :=
  iprop(bigSep (Finset.Ico g 15) (credR (F := F) c ℓ) ∗ bigSep (Finset.Ico g (g + 3)) (posR (F := F) c ℓ)
    ∗ bigSep (Finset.Ico q g) (slotQ (F := F) c ℓ) ∗ heard (Entered (F := F)) (hops c ℓ g))
/-- The giver of credits after `q` of them. -/
def GiveSt (q : ℕ) : sProp 𝕄 :=
  iprop(bigSep (Finset.Ico q (q + 3)) (rdrQ (F := F) c ℓ) ∗ bigSep (Finset.Ico q 12) (tokQ (F := F) c ℓ) ∗ readyTo (F := F) c ℓ q)
/-- The taker of credits after `m` of them. -/
def TakeSt (m : ℕ) : sProp 𝕄 :=
  iprop(bigSep (Finset.Ico m 12) (credM (F := F) c ℓ)
    ∗ ∃ T : Finset ℕ, ⌜T ⊆ Finset.range 12 ∧ m ≤ T.card⌝ ∗ atPos (ER (F := F)) (cell c (.crd ℓ)) 0 T m
      ∗ bigSep T (fun n => readyTo (F := F) (dst c ℓ) ℓ (n + 1)))
end Windows

theorem slot_lt5 {i : ℕ} (h : i < 15) : i / 3 < 5 := by omega

/-! ### The lane's operations -/

omit [FloatOps F] in
theorem slotM_set (M : Memref sig .tc .vmem S3x256x512 .bf16) (k : Fin 3) : (slotM M k).view.set = M.view.setOn (slotR k).set := by
  show ((M.view.slice (slotR k)).reshape _ _).set = _
  rw [View.set_reshape, View.set_slice]; rfl

/-- A departed message's slot comes back. -/
theorem op_sent (c : Dev nD) (ℓ : Fin 4) (p f : ℕ) (hf : f < p) (hp : p ≤ 15) (hpf : p ≤ f + 3) (O : CellTallies nD τ sig ℕ) (hO : Above 0 O) (K : P F) (Q : PUnit → sProp 𝕄) :
    iprop(recs (F := F) X W KN KS ∗ SendSt c ℓ p f ∗ OW c O)
      ⊢ iprop((SendSt c ℓ p (f + 1) ∗ OW c O -∗ WP c K Q) -∗ WP c (sent ℓ (slot f) K) Q) := by
  unfold sent SendSt
  rw [win_pop hf, win_pop (show f < f + 3 by omega), show f + 1 + 3 = f + 3 + 1 by omega, win_push hpf, win_push (show f + 1 ≤ f + 3 by omega)]
  have hcr : credS (F := F) c ℓ f = cred (tallyAt (cell c (.snd ℓ (slot f))) 0 N) := rfl
  have hps : posS (F := F) c ℓ f = iprop(atPos (ER (F := F)) (cell c (.snd ℓ (slot f))) (f / 3) ∅ 0 ∗ reached (ER (F := F)) (cell c (.snd ℓ (slot f))) (f / 3)) := rfl
  have hps' : posS (F := F) c ℓ (f + 3) = iprop(atPos (ER (F := F)) (cell c (.snd ℓ (slot f))) (f / 3 + 1) ∅ 0 ∗ reached (ER (F := F)) (cell c (.snd ℓ (slot f))) (f / 3 + 1)) := by
    unfold posS; rw [slot_add, div_add]
  have hsl : slotS (F := F) c ℓ (f + 3) = pay X W c (some (.snd ℓ (slot f))) (f / 3) 0 := by unfold slotS; rw [slot_add]; rfl
  rw [hcr, hps, hps', hsl]
  iintro ⟨#HR, ⟨Htok, Hsl, ⟨Hc, Hcs⟩, ⟨⟨Hat, -⟩, Hps⟩⟩, HO⟩ Hk
  iapply (wait_one X W KN KS c (.snd ℓ (slot f)) (f / 3) 0 0 (if_pos (slot_lt5 (by omega))) (by decide) (Nat.le_refl _)
    (fun K => (wpE_waitDma2_eq 𝒱₀ (c : Thread nD τ) none Set.univ K).trans (by rw [N_sb]; rfl)) O hO (fun _ => K) Q) $$ [Hc HO Hat]
  · isplitr; · iexact HR
    isplitl [Hc]; · iexact Hc
    isplitl [HO]; · iexact HO
    iexact Hat
  iintro ⟨HO, Hat, Hr, Hpay⟩
  iapply Hk
  isplitr [HO]
  · isplitl [Htok]; · iexact Htok
    isplitl [Hsl Hpay]
    · isplitl [Hpay]; · iexact Hpay
      iexact Hsl
    isplitl [Hcs]; · iexact Hcs
    isplitl [Hat Hr]
    · isplitl [Hat]; · iexact Hat
      iexact Hr
    iexact Hps
  iexact HO

/-- A message comes in. -/
theorem op_recv (c : Dev nD) (ℓ : Fin 4) (q g : ℕ) (hg : g < 15) (hqg : q ≤ g) (O : CellTallies nD τ sig ℕ) (hO : Above (2 * g + 2) O)
    (K : Vec F S1x256x512 .bf16 → P F) (Q : PUnit → sProp 𝕄) :
    iprop(recs (F := F) X W KN KS ∗ Entered c ∗ RecvSt c ℓ q g ∗ OW c O)
      ⊢ iprop((∀ r : Vec F S1x256x512 .bf16, ⌜shapeCast S256x512 r shapeCasts_S1x256x512_S256x512 = msg X W ℓ g (src c ℓ)⌝
          ∗ RecvSt c ℓ q (g + 1) ∗ OW c O -∗ WP c (K r) Q) -∗ WP c (recv ℓ (slot g) K) Q) := by
  unfold recv RecvSt
  rw [win_pop hg, win_pop (show g < g + 3 by omega), show g + 1 + 3 = g + 3 + 1 by omega, win_push hqg, win_push (show g + 1 ≤ g + 3 by omega)]
  have hcr : credR (F := F) c ℓ g = cred (tallyAt (cell c (.rcv ℓ (slot g))) g N) := rfl
  have hps : posR (F := F) c ℓ g = iprop(atPos (ER (F := F)) (cell c (.rcv ℓ (slot g))) (g / 3) ∅ 0 ∗ reached (ER (F := F)) (cell c (.rcv ℓ (slot g))) (g / 3)) := rfl
  have hps' : posR (F := F) c ℓ (g + 3) = iprop(atPos (ER (F := F)) (cell c (.rcv ℓ (slot g))) (g / 3 + 1) ∅ 0 ∗ reached (ER (F := F)) (cell c (.rcv ℓ (slot g))) (g / 3 + 1)) := by
    unfold posR; rw [slot_add, div_add]
  have hpay : pay X W c (some (.rcv ℓ (slot g))) (g / 3) 0 = iprop(holds (F := F) c (slotM (rb ℓ) (slot g)) fullShare (msg X W ℓ g (src c ℓ))
      ∗ heard (Entered (F := F)) (hops (src c ℓ) ℓ g)) := by
    show iprop(holds (F := F) c (slotM (rb ℓ) (slot g)) fullShare (msg X W ℓ (3 * (g / 3) + (slot g).val) (src c ℓ))
      ∗ heard (Entered (F := F)) (hops (src c ℓ) ℓ (3 * (g / 3) + (slot g).val))) = _
    rw [slot_div]
  rw [hcr, hps, hps']
  iintro ⟨#HR, #HE, ⟨⟨Hc, Hcs⟩, ⟨⟨Hat, -⟩, Hps⟩, Hsl, Hh⟩, HO⟩ Hk
  iapply (wait_one X W KN KS c (.rcv ℓ (slot g)) (g / 3) g (2 * g + 2) (if_pos (slot_lt5 (by omega))) (by omega) (Nat.le_refl _)
    (fun K => (wpE_waitDma2_eq 𝒱₀ (c : Thread nD τ) none Set.univ K).trans (by rw [N_rb]; rfl)) O hO
    (fun _ => .op (.load (rb ℓ) (slotR (slot g)).toLoadRect (View.loadsAt_vmem h_S1x256x512)) K) Q) $$ [Hc HO Hat]
  · isplitr; · iexact HR
    isplitl [Hc]; · iexact Hc
    isplitl [HO]; · iexact HO
    iexact Hat
  iintro ⟨HO, Hat, #Hr, Hpay⟩
  have hpay' : pay X W c (some (.rcv ℓ (slot g))) (g / 3) 0
      ⊢ iprop((∃ f, ⌜(slotM (rb ℓ) (slot g)).view.read (Elt F) f = msg X W ℓ g (src c ℓ)⌝ ∗ at_ (F := F) c (slotM (rb ℓ) (slot g)) fullShare f)
        ∗ heard (Entered (F := F)) (hops (src c ℓ) ℓ g)) := Entails.of_eq hpay
  ihave Hp := hpay' $$ Hpay
  icases Hp with ⟨⟨%f, %hf, Hpts⟩, Hh'⟩
  iapply (wp_load 𝒱₀ (c : Thread nD τ) none Set.univ (m := rb ℓ) (r := (slotR (slot g)).toLoadRect) (S := (slotM (rb ℓ) (slot g)).view.set) (q := fullShare) (f := f)
    (by rw [slotM_set])) $$ Hpts
  iintro Hpts
  iapply Hk
  isplitr; · ipureintro; exact hf
  isplitr [HO]
  · isplitl [Hcs]; · iexact Hcs
    isplitl [Hat Hps]
    · isplitl [Hat]
      · isplitl [Hat]; · iexact Hat
        iexact Hr
      iexact Hps
    isplitl [Hpts Hsl]
    · isplitl [Hpts]
      · unfold slotQ any_
        isplitl [Hpts]; · iexists f; iexact Hpts
        iexact Hr
      iexact Hsl
    have hu : iprop(Entered (F := F) c ∗ heard (Entered (F := F)) (hops (src c ℓ) ℓ g)) ⊢ heard (Entered (F := F)) (hops c ℓ (g + 1)) :=
      (sep_mono_left (Release.heard_single (Entered (F := F)) c)).trans (Release.heard_union (Entered (F := F)) {c} (hops (src c ℓ) ℓ g))
    iapply hu
    isplitr; · iexact HE
    iexact Hh'
  iexact HO

omit [FloatOps F] in
theorem readyTo_succ (d : Dev nD) (ℓ : Fin 4) (n : ℕ) : readyTo (F := F) d ℓ (n + 1) = iprop(ready d ℓ (n + 3) ∗ readyTo d ℓ n) := by
  unfold readyTo; rw [Finset.range_add_one, bigSep_insert Finset.notMem_range_self]; rfl
omit [FloatOps F] in
theorem slotM_nonempty (M : Memref sig .tc .vmem S3x256x512 .bf16) (k : Fin 3) : (slotM M k).view.set.Nonempty :=
  ⟨_, View.emb_mem_set _ (fun a => ⟨0, by revert a; decide⟩ : S256x512.Idx)⟩

theorem ico_insert {a b : ℕ} (h : a < b) : Finset.Ico a b = insert a (Finset.Ico (a + 1) b) := by
  ext x; simp only [Finset.mem_Ico, Finset.mem_insert]; omega
theorem owe_put (c : Dev nD) (ℓ : Fin 4) (p q : ℕ) (hp : p < 15) :
    owe c ℓ p q = owe c ℓ (p + 1) q + tallyAt (cell (dst c ℓ) (.rcv ℓ (slot p))) p N := by
  unfold owe; rw [ico_insert hp, Finset.sum_insert (by simp), add_comm (tallyAt _ p N), add_right_comm]
theorem owe_credit (c : Dev nD) (ℓ : Fin 4) (p q : ℕ) (hq : q < 12) :
    owe c ℓ p q = owe c ℓ p (q + 1) + tallyAt (cell (src c ℓ) (.crd ℓ)) q 1 := by
  unfold owe; rw [ico_insert hq, Finset.sum_insert (by simp), add_comm (tallyAt _ q 1), add_assoc]

/-- A credit is given: the slot of a message that has been read is free again. -/
theorem op_credit (c : Dev nD) (ℓ : Fin 4) (p q g : ℕ) (hq : q < 12) (hqg : q < g) (n : Dev nD) (hn : n = src c ℓ) (O : CellTallies nD τ sig ℕ)
    (K : P F) (Q : PUnit → sProp 𝕄) :
    iprop(recs (F := F) X W KN KS ∗ RecvSt c ℓ q g ∗ GiveSt c ℓ q ∗ OW c (O + owe c ℓ p q))
      ⊢ iprop((RecvSt c ℓ (q + 1) g ∗ GiveSt c ℓ (q + 1) ∗ OW c (O + owe c ℓ p (q + 1)) -∗ WP c K Q) -∗ WP c (credit ℓ n K) Q) := by
  subst hn
  unfold credit RecvSt GiveSt OW
  rw [win_pop hqg, win_pop hq, win_pop (show q < q + 3 by omega), show q + 1 + 3 = q + 3 + 1 by omega, win_push (show q + 1 ≤ q + 3 by omega), readyTo_succ]
  have hrd' : rdrQ (F := F) c ℓ (q + 3) = readerAt (EK (F := F)) (rkey c ℓ (slot q)) (q / 3 + 1 + 1) := by unfold rdrQ; rw [slot_add, div_add]
  have hready : ready (F := F) c ℓ (q + 3) = iprop(released (EK (F := F)) (rkey c ℓ (slot q)) (q / 3 + 1 + 1) ∗ reached (ER (F := F)) (cell c (.rcv ℓ (slot q))) (q / 3 + 1)) := by
    unfold ready; rw [slot_add, div_add]
  have htq : tokQ (F := F) c ℓ q = dutyTok (ER (F := F)) ((src c ℓ : Thread nD τ), SemLoc.reg (cs ℓ).sem) 0 q := rfl
  rw [hrd', hready, htq]
  have hrel : iprop(recs (F := F) X W KN KS ∗ rdrQ (F := F) c ℓ q ∗ any_ (F := F) c (slotM (rb ℓ) (slot q)))
      ⊢ (|={Set.univ}=> (readerAt (EK (F := F)) (rkey c ℓ (slot q)) (q / 3 + 1 + 1) ∗ released (EK (F := F)) (rkey c ℓ (slot q)) (q / 3 + 1 + 1)) : sProp 𝕄) :=
    (sep_mono_left (recs_slot X W KN KS (rkey c ℓ (slot q)))).trans
      (slot_release (E := EK (F := F)) (k := rkey c ℓ (slot q)) (S := keyPlace (rkey c ℓ (slot q))) (Set.mem_univ _)
        (any_any_false c _ (slotM_nonempty _ _)) (q / 3 + 1))
  unfold slotQ
  iintro ⟨#HR, ⟨Hcr, Hps, ⟨⟨Hs, #Hr⟩, Hsl⟩, Hh⟩, ⟨⟨Hrd, Hrds⟩, ⟨Ht, Hts⟩, #Hrt⟩, ⟨%Ws, HO⟩⟩ Hk
  imod hrel $$ [Hrd Hs] with ⟨Hrd, #Hrel⟩
  · isplitr; · iexact HR
    isplitl [Hrd]; · iexact Hrd
    iexact Hs
  ihave #HI := (recs_cell X W KN KS (src c ℓ) (some (.crd ℓ))) $$ HR
  ihave #H0 := (recs_reached X W KN KS (src c ℓ) (some (.crd ℓ))) $$ HR
  have hP := Rd_payload (F := F) X W (src c ℓ) (some (.crd ℓ)) 0 q
  iapply (Rounds.wp_signal 𝒱₀ ER (Rd X W) (c : Thread nD τ) none (dst := (src c ℓ : Thread nD τ)) (sem := (cs ℓ).sem) (κ := KN (src c ℓ, some (.crd ℓ)))
      (r := 0) (d := q) (by rw [show (((src c ℓ : Thread nD τ), SemLoc.reg (cs ℓ).sem) : GSem nD τ sig) = ((src c ℓ : Thread nD τ), csem (some (.crd ℓ))) from rfl, Rd_duties]; exact Finset.mem_range.mpr hq)
      ((Rd_amount X W (src c ℓ) (some (.crd ℓ)) 0 q).trans (show 1 = (1#32 : BitVec 32).toNat by decide)) q (O₀ := O + owe c ℓ p q) (O + owe c ℓ p (q + 1)) (by rw [owe_credit c ℓ p q hq, add_assoc]; rfl))
    $$ [HO Ht]
  · isplitr; · iexact HI
    isplitl [HO]; · iexact HO
    isplitl [Ht]; · iexact Ht
    isplitr
    · have hp : iprop(ready (F := F) c ℓ (q + 3) ∗ readyTo c ℓ q) ⊢ (Rd (F := F) X W).payload ((src c ℓ : Thread nD τ), SemLoc.reg (cs ℓ).sem) 0 q := by
        refine BIBase.Entails.trans ?_ (Entails.of_eq hP.symm)
        show _ ⊢ readyTo (F := F) (dst (src c ℓ) ℓ) ℓ (q + 1)
        rw [dst_src, readyTo_succ]
      iapply hp
      rw [hready]
      isplitr
      · isplitr; · iexact Hrel
        iexact Hr
      iexact Hrt
    iexact H0
  iintro HO
  iapply Hk
  isplitl [Hcr Hps Hsl Hh]
  · isplitl [Hcr]; · iexact Hcr
    isplitl [Hps]; · iexact Hps
    isplitl [Hsl]; · iexact Hsl
    iexact Hh
  isplitr [HO]
  · isplitl [Hrd Hrds]
    · isplitl [Hrd]; · iexact Hrd
      iexact Hrds
    isplitl [Hts]; · iexact Hts
    isplitr
    · isplitr; · iexact Hrel
      iexact Hr
    iexact Hrt
  iexists Ws; iexact HO

/-- A credit is taken. -/
theorem op_take (c : Dev nD) (ℓ : Fin 4) (m : ℕ) (hm : m < 12) (O : CellTallies nD τ sig ℕ) (hO : Above (2 * m + 3) O) (K : P F) (Q : PUnit → sProp 𝕄) :
    iprop(recs (F := F) X W KN KS ∗ TakeSt c ℓ m ∗ OW c O)
      ⊢ iprop((TakeSt c ℓ (m + 1) ∗ OW c O -∗ WP c K Q) -∗ WP c (take ℓ K) Q) := by
  unfold take TakeSt OW
  rw [win_pop hm]
  have hcm : credM (F := F) c ℓ m = cred (tallyAt (cell c (.crd ℓ)) m 1) := rfl
  rw [hcm]
  iintro ⟨#HR, ⟨⟨Hc, Hcs⟩, ⟨%T, %hT, Hat, #HT⟩⟩, ⟨%Ws, HO⟩⟩ Hk
  ihave #Hlev := (recs_lev X W KN KS) $$ HR
  ihave #HI := (recs_cell X W KN KS c (some (.crd ℓ))) $$ HR
  have hD : (Rd (F := F) X W).duties ((c : Thread nD τ), SemLoc.reg (cs ℓ).sem) 0 = Finset.range 12 := Rd_duties X W c (some (.crd ℓ)) 0
  have hE : (Rd (F := F) X W).expect ((c : Thread nD τ), SemLoc.reg (cs ℓ).sem) 0 = 12 := Rd_expect X W c (some (.crd ℓ)) 0
  have hP : ∀ n, (Rd (F := F) X W).payload ((c : Thread nD τ), SemLoc.reg (cs ℓ).sem) 0 n = readyTo (F := F) (dst c ℓ) ℓ (n + 1) := Rd_payload X W c (some (.crd ℓ)) 0
  iapply (Rounds.wp_wait 𝒱₀ ER (Rd X W) (c : Thread nD τ) none (κ := KN (c, some (.crd ℓ))) (sm := SemLoc.reg (cs ℓ).sem)
      (wpE_semWait_eq 𝒱₀ (c : Thread nD τ) none Set.univ) (Set.mem_univ _) (cr := Finsupp.single m 1) (O := O) (W := Ws) {(SemLoc.reg (cs ℓ).sem, m)}
      (R := 0) (m := m) (T := T) (by rw [Util.total_single]; decide) (image_single_subset _ m 1)) $$ [Hc HO Hat]
  · isplitr; · iexact HI
    isplitl [Hc]; · iexact Hc
    isplitl [HO]; · iexact HO
    isplitr; · iapply (mayWait_of_above c (some (.crd ℓ)) m (2 * m + 3) (by omega) (Nat.le_refl _) O hO); iexact Hlev
    iexact Hat
  iintro %S ⟨%hS, HO, Hat, HS⟩
  iapply Hk
  isplitr [HO]
  · isplitl [Hcs]; · iexact Hcs
    iexists S
    rw [hD, hE] at hS
    isplitr
    · ipureintro
      refine ⟨hS.2.1, ?_⟩
      have h1 := hS.2.2
      rw [Finset.card_sdiff_of_subset hS.2.1, Finset.card_range] at h1
      have h2 := Finset.card_le_card hS.2.1
      rw [Finset.card_range] at h2
      have h3 : (1#32 : BitVec 32).toNat = 1 := by decide
      omega
    isplitl [Hat]; · iexact Hat
    have hun : iprop(bigSep T (fun n => readyTo (F := F) (dst c ℓ) ℓ (n + 1)) ∗ bigSep (S \ T) (fun d => (Rd (F := F) X W).payload ((c : Thread nD τ), SemLoc.reg (cs ℓ).sem) 0 d))
        ⊢ bigSep S (fun n => readyTo (F := F) (dst c ℓ) ℓ (n + 1)) := by
      rw [show (fun d => (Rd (F := F) X W).payload ((c : Thread nD τ), SemLoc.reg (cs ℓ).sem) 0 d) = fun n => readyTo (F := F) (dst c ℓ) ℓ (n + 1) from funext hP,
        show S = T ∪ (S \ T) from (Finset.union_sdiff_of_subset hS.1).symm, bigSep_union Finset.disjoint_sdiff, Finset.union_sdiff_of_subset hS.1]
      exact Entails.refl _
    iapply hun
    isplitr; · iexact HT
    iexact HS
  iexists _; iexact HO

/-- After `m + 1` credits the slot of message `m + 3` is free. -/
theorem take_ready (c : Dev nD) (ℓ : Fin 4) (m : ℕ) : TakeSt (F := F) c ℓ (m + 1) ⊢ iprop(TakeSt (F := F) c ℓ (m + 1) ∗ ready (F := F) (dst c ℓ) ℓ (m + 3)) := by
  unfold TakeSt
  iintro ⟨Hcs, ⟨%T, %hT, Hat, #HT⟩⟩
  have hn : ∃ n ∈ T, m ≤ n := by
    by_contra h
    push Not at h
    have := Finset.card_le_card (show T ⊆ Finset.range m from fun n hn => Finset.mem_range.mpr (h n hn))
    rw [Finset.card_range] at this
    omega
  obtain ⟨n, hnT, hmn⟩ := hn
  have h1 : bigSep T (fun n => readyTo (F := F) (dst c ℓ) ℓ (n + 1)) ⊢ ready (F := F) (dst c ℓ) ℓ (m + 3) :=
    (bigSep_elim hnT).trans (by unfold readyTo; exact bigSep_elim (Finset.mem_range.mpr (by omega)))
  isplitl [Hcs Hat]
  · isplitl [Hcs]; · iexact Hcs
    iexists T
    isplitr; · ipureintro; exact hT
    isplitl [Hat]; · iexact Hat
    iexact HT
  iapply h1; iexact HT

omit [FloatOps F] in
/-- What was stored in a slot is what the copy reads. -/
theorem slot_read_store (M : Memref sig .tc .vmem S3x256x512 .bf16) (k : Fin 3) (c : Dev nD) (f : Buf (Elt F) (M.view.loc (c : Thread nD τ))) (v : Vec F S1x256x512 .bf16) :
    (slotM M k).view.read (Elt F) ((M.access (slotR k)).write (Elt F) f v Finset.univ) = shapeCast S256x512 v shapeCasts_S1x256x512_S256x512 := by
  have h1 : M.view.readAt (Elt F) (slotR k).toLoadRect ((M.access (slotR k)).write (Elt F) f v Finset.univ) = v :=
    View.read_write_univ (v := M.access (slotR k)) f v
  have h := Memref.read_squeeze_slice (Val := Elt F) M (slotR k) (fun _ => rfl) squeezes_S1x256x512_S256x512 shapeCasts_S1x256x512_S256x512
    ((M.access (slotR k)).write (Elt F) f v Finset.univ)
  rw [h1] at h
  exact h

/-- A message is put into its slot and sent. -/
theorem op_put (c : Dev nD) (ℓ : Fin 4) (p q f : ℕ) (hp : p < 15) (hpf : p < f + 3) (hfp : f ≤ p) (n : Dev nD) (hn : n = dst c ℓ) (v : FVec F S1x256x512 .bf16)
    (hv : shapeCast S256x512 v shapeCasts_S1x256x512_S256x512 = msg X W ℓ p c) (O : CellTallies nD τ sig ℕ) (K : P F) (Q : PUnit → sProp 𝕄) :
    iprop(recs (F := F) X W KN KS ∗ ready (F := F) (dst c ℓ) ℓ p ∗ heard (Entered (F := F)) (hops c ℓ p) ∗ SendSt c ℓ p f ∗ OW c (O + owe c ℓ p q))
      ⊢ iprop((SendSt c ℓ (p + 1) f ∗ OW c (O + owe c ℓ (p + 1) q) -∗ WP c K Q) -∗ WP c (put ℓ (slot p) n v K) Q) := by
  unfold put SendSt
  rw [win_pop hp, win_pop hpf, win_push hfp, owe_put c ℓ p q hp, ← add_assoc]
  have htk : sendTok (F := F) c ℓ p = iprop(dutyTok (ER (F := F)) (cell c (.snd ℓ (slot p))) (p / 3) 0 ∗ dutyTok (ER (F := F)) (cell (dst c ℓ) (.rcv ℓ (slot p))) (p / 3) 0
    ∗ writeTok (EK (F := F)) (rkey (dst c ℓ) ℓ (slot p)) (p / 3 + 1)) := rfl
  have hsl : slotS (F := F) c ℓ p = iprop(∃ g, at_ (F := F) c (slotM (sb ℓ) (slot p)) fullShare g) := rfl
  have hrs : bigSep (Finset.Ico f (f + 3)) (posS (F := F) c ℓ) ⊢ iprop(bigSep (Finset.Ico f (f + 3)) (posS (F := F) c ℓ) ∗ reached (ER (F := F)) (cell c (.snd ℓ (slot p))) (p / 3)) := by
    have hb : bigSep (Finset.Ico f (f + 3)) (posS (F := F) c ℓ) = iprop(posS (F := F) c ℓ p ∗ bigSep ((Finset.Ico f (f + 3)).erase p) (posS (F := F) c ℓ)) :=
      bigSep_erase (show p ∈ Finset.Ico f (f + 3) by rw [Finset.mem_Ico]; omega)
    rw [hb]
    have he : posS (F := F) c ℓ p = iprop(atPos (ER (F := F)) (cell c (.snd ℓ (slot p))) (p / 3) ∅ 0 ∗ reached (ER (F := F)) (cell c (.snd ℓ (slot p))) (p / 3)) := rfl
    rw [he]
    iintro ⟨⟨H1, #H2⟩, H3⟩
    isplitl [H1 H3]
    · isplitl [H1]
      · isplitl [H1]; · iexact H1
        iexact H2
      iexact H3
    iexact H2
  have htake : iprop(recs (F := F) X W KN KS ∗ released (EK (F := F)) (rkey (dst c ℓ) ℓ (slot p)) (p / 3 + 1) ∗ writeTok (EK (F := F)) (rkey (dst c ℓ) ℓ (slot p)) (p / 3 + 1))
      ⊢ (|={Set.univ}=> any_ (F := F) (dst c ℓ) (slotM (rb ℓ) (slot p)) : sProp 𝕄) :=
    (sep_mono_left (recs_slot X W KN KS (rkey (dst c ℓ) ℓ (slot p)))).trans
      (slot_take (E := EK (F := F)) (k := rkey (dst c ℓ) ℓ (slot p)) (S := keyPlace (rkey (dst c ℓ) ℓ (slot p))) (Set.mem_univ _) (p / 3 + 1))
  have hcS : credS (F := F) c ℓ p = cred (tallyAt (cell c (.snd ℓ (slot p))) 0 (amt (some (.snd ℓ (slot p))))) := rfl
  rw [htk, hsl, hcS]
  have hready : ready (F := F) (dst c ℓ) ℓ p = iprop(released (EK (F := F)) (rkey (dst c ℓ) ℓ (slot p)) (p / 3 + 1) ∗ reached (ER (F := F)) (cell (dst c ℓ) (.rcv ℓ (slot p))) (p / 3)) := rfl
  rw [hready]
  iintro ⟨#HR, ⟨#Hrel, #Hrr⟩, #Hh, ⟨⟨⟨Ht1, Ht2, Hw⟩, Htok⟩, ⟨⟨%f0, Hs⟩, Hsl⟩, Hcs, Hps⟩, HO⟩ Hk
  imod htake $$ [Hw] with Hd
  · isplitr; · iexact HR
    isplitr; · iexact Hrel
    iexact Hw
  ihave Hps' := hrs $$ Hps
  icases Hps' with ⟨Hps, #Hrs⟩
  iapply (wp_load 𝒱₀ (c : Thread nD τ) none Set.univ (m := sb ℓ) (r := (slotR (slot p)).toLoadRect) (S := (slotM (sb ℓ) (slot p)).view.set) (q := fullShare) (f := f0)
    (by rw [slotM_set])) $$ Hs
  iintro Hs
  iapply (wp_store 𝒱₀ (c : Thread nD τ) none Set.univ (m := sb ℓ) (r := slotR (slot p)) (w := v) (Mk := Finset.univ) (S := (slotM (sb ℓ) (slot p)).view.set) (f := f0)
    (by rw [slotM_set]; show ((sb ℓ).view.slice (slotR (slot p))).set ⊆ _; rw [View.set_slice]; exact Finset.Subset.refl _)) $$ Hs
  iintro Hs
  iapply (send_one X W KN KS c (dst c ℓ) (.snd ℓ (slot p)) (.rcv ℓ (slot p)) (p / 3) (p / 3) p
    (by rw [show duties (some (.snd ℓ (slot p))) (p / 3) = {0} from if_pos (slot_lt5 hp)]; exact Finset.mem_singleton_self _)
    (by rw [show duties (some (.rcv ℓ (slot p))) (p / 3) = {0} from if_pos (slot_lt5 hp)]; exact Finset.mem_singleton_self _)
    n hn rfl rfl (N_rb ℓ (slot p)) rfl fullShare ((((sb ℓ).access (slotR (slot p))).write (Elt F) f0 v Finset.univ))
    (heard (Entered (F := F)) (hops c ℓ p)) (O + owe c ℓ (p + 1) q)
    (by
      show _ ⊢ any_ (F := F) c (slotM (sb ℓ) (slot p))
      unfold any_
      iintro H; iexists _; iexact H)
    (fun fd => by
      show _ ⊢ iprop(holds (F := F) (dst c ℓ) (slotM (rb ℓ) (slot p)) fullShare (msg X W ℓ (3 * (p / 3) + (slot p).val) (src (dst c ℓ) ℓ))
        ∗ heard (Entered (F := F)) (hops (src (dst c ℓ) ℓ) ℓ (3 * (p / 3) + (slot p).val)))
      rw [slot_div, src_dst]
      unfold holds
      iintro ⟨H, Hh⟩
      isplitl [H]
      · iexists _
        isplitr
        rotate_left
        · iexact H
        · ipureintro
          exact (View.read_write_univ _ _).trans ((slot_read_store (sb ℓ) (slot p) c f0 v).trans hv)
      iexact Hh) (fun _ => K) Q) $$ [Hs Hd HO Ht1 Ht2]
  · isplitr; · iexact HR
    isplitl [Hs]; · iexact Hs
    isplitl [Hd]; · iexact Hd
    isplitr; · iexact Hh
    isplitl [HO]; · iexact HO
    isplitl [Ht1]; · iexact Ht1
    isplitr; · iexact Hrs
    isplitl [Ht2]; · iexact Ht2
    iexact Hrr
  iintro ⟨Hc, HO⟩
  iapply Hk
  isplitr [HO]
  · isplitl [Htok]; · iexact Htok
    isplitl [Hsl]; · iexact Hsl
    isplitl [Hc Hcs]
    · isplitl [Hc]; · iexact Hc
      iexact Hcs
    iexact Hps
  iexact HO

end Cert.KernelIdeal.Ring

end
-- ==== Proof.Rounds.lean ====
/-
# The rounds

A lane's state before round `s` follows from `s` alone. One round takes all four lanes from round `s` to round `s + 1`; the
middle rounds follow by induction, and after round 15 the four blocks of the device's rows lie in the output.
-/
module

public import proofs.«01_k».proof.Proof.Lane
public import Mathlib.Tactic.Abel

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release heard)

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))
variable (KN : Dev nD × Option CK → ℕ) (KS : RK → ℕ)

/-! ### One lane -/

/-- The lane before round `s`. -/
def LaneSt (c : Dev nD) (ℓ : Fin 4) (s : ℕ) : sProp 𝕄 :=
  iprop(SendSt c ℓ s (s - 3) ∗ RecvSt c ℓ (min (s - 1) 12) (s - 1) ∗ GiveSt c ℓ (min (s - 1) 12) ∗ TakeSt c ℓ (s - 3))
/-- The lane after the last round. -/
def DoneSt (c : Dev nD) (ℓ : Fin 4) : sProp 𝕄 :=
  iprop(SendSt c ℓ 15 12 ∗ RecvSt c ℓ 12 15 ∗ GiveSt c ℓ 12 ∗ TakeSt c ℓ 12)
/-- What the lane owes before round `s`. -/
def laneOwe (c : Dev nD) (ℓ : Fin 4) (s : ℕ) : CellTallies nD τ sig ℕ := owe c ℓ s (min (s - 1) 12)

theorem above_laneOwe (c : Dev nD) (ℓ : Fin 4) (s l : ℕ) (hp : l < 2 * s + 2) (hq : s ≤ 12 → l < 2 * (s - 1) + 3) : Above l (laneOwe c ℓ s) := by
  refine (Above.sum _ _ fun i hi => ?_).add (Above.sum _ _ fun n hn => ?_)
  · have := Finset.mem_Ico.mp hi
    exact Above.tally _ (some (.rcv ℓ (slot i))) _ (by omega) (show l < 2 * i + 2 by omega)
  · have := Finset.mem_Ico.mp hn
    exact Above.tally _ (some (.crd ℓ)) _ (by omega) (show l < 2 * n + 3 by omega)

/-- The device's columns of `w` are read. -/
theorem op_loadW (c : Dev nD) (ℓ : Fin 4) (K : Vec F S256x512 .f32 → P F) (Q : PUnit → sProp 𝕄) :
    (((c : Thread nD τ).loc cc0_stg1_0) ↦{fullShare} W c : sProp 𝕄)
      ⊢ iprop(((((c : Thread nD τ).loc cc0_stg1_0) ↦{fullShare} W c) -∗ WP c (K (wcol W c ℓ)) Q) -∗ WP c (loadW (Memref.whole cc0_stg1_0) ℓ K) Q) := by
  unfold loadW
  exact wp_load 𝒱₀ (c : Thread nD τ) none Set.univ (m := (Memref.whole cc0_stg1_0 : Memref sig .tc .vmem S256x2048 .f32)) (r := (colR ℓ).toLoadRect)
    (S := Finset.univ) (q := fullShare) (f := W c) (Finset.subset_univ _)

/-- The two blocks of rows are read. -/
theorem op_loadX (c : Dev nD) (s : Fin 16) (K : Vec F S256x256 .f32 → Vec F S256x256 .f32 → P F) (Q : PUnit → sProp 𝕄) :
    (((c : Thread nD τ).loc cc0_stg0_0) ↦{fullShare} X c : sProp 𝕄)
      ⊢ iprop(((((c : Thread nD τ).loc cc0_stg0_0) ↦{fullShare} X c) -∗ WP c (K (xrow X c 0 s.val) (xrow X c 1 s.val)) Q)
        -∗ WP c (loadX (Memref.whole cc0_stg0_0) c s K) Q) := by
  have h0 : xrow X c 0 s.val = (Memref.whole cc0_stg0_0 : Memref sig .tc .vmem S4096x256 .f32).view.readAt (Elt F) (rowR c s).toLoadRect (X c) := by
    unfold xrow; rw [if_pos (by decide), show Fin.ofNat 16 s.val = s from Fin.ext (Nat.mod_eq_of_lt s.isLt)]
  have h1 : xrow X c 1 s.val = (Memref.whole cc0_stg0_0 : Memref sig .tc .vmem S4096x256 .f32).view.readAt (Elt F) (rowL c s).toLoadRect (X c) := by
    unfold xrow; rw [if_neg (by decide), show Fin.ofNat 16 s.val = s from Fin.ext (Nat.mod_eq_of_lt s.isLt)]
  rw [h0, h1]
  unfold loadX
  iintro H Hk
  iapply (wp_load 𝒱₀ (c : Thread nD τ) none Set.univ (m := (Memref.whole cc0_stg0_0 : Memref sig .tc .vmem S4096x256 .f32)) (r := (rowR c s).toLoadRect)
    (S := Finset.univ) (q := fullShare) (f := X c) (Finset.subset_univ _)) $$ H
  iintro H
  iapply (wp_load 𝒱₀ (c : Thread nD τ) none Set.univ (m := (Memref.whole cc0_stg0_0 : Memref sig .tc .vmem S4096x256 .f32)) (r := (rowL c s).toLoadRect)
    (S := Finset.univ) (q := fullShare) (f := X c) (Finset.subset_univ _)) $$ H
  iintro H
  iapply Hk; iexact H

omit [FloatOps F] in
/-- The first three slots of a device that has opened its buffers are free. -/
theorem entered_ready (d : Dev nD) (ℓ : Fin 4) (s : ℕ) (hs : s < 3) :
    iprop(reached (ER (F := F)) (cell d (.rcv ℓ (slot s))) 0 ∗ Entered (F := F) d) ⊢ ready (F := F) d ℓ s := by
  unfold ready Entered
  rw [Nat.div_eq_of_lt hs]
  have h : bigSep Finset.univ (fun x : Fin 4 × Fin 3 => released (EK (F := F)) (rkey d x.1 x.2) 1) ⊢ released (EK (F := F)) (rkey d ℓ (slot s)) 1 :=
    bigSep_elim (Φ := fun x : Fin 4 × Fin 3 => released (EK (F := F)) (rkey d x.1 x.2) 1) (Finset.mem_univ (ℓ, slot s))
  iintro ⟨Hr, ⟨H, -⟩⟩
  isplitl [H]; · iapply h; iexact H
  iexact Hr

/-- The credit of round `s`. -/
theorem op_creditIf (c : Dev nD) (ℓ : Fin 4) (s : ℕ) (hs : 1 ≤ s) (O : CellTallies nD τ sig ℕ) (K : P F) (Q : PUnit → sProp 𝕄) :
    iprop(recs (F := F) X W KN KS ∗ RecvSt c ℓ (min (s - 1) 12) s ∗ GiveSt c ℓ (min (s - 1) 12) ∗ OW c (O + owe c ℓ s (min (s - 1) 12)))
      ⊢ iprop((RecvSt c ℓ (min s 12) s ∗ GiveSt c ℓ (min s 12) ∗ OW c (O + owe c ℓ s (min s 12)) -∗ WP c K Q) -∗ WP c (creditIf s ℓ c K) Q) := by
  unfold creditIf
  by_cases h : s ≤ 12
  · rw [if_pos h, show min (s - 1) 12 = s - 1 by omega, show min s 12 = s - 1 + 1 by omega]
    exact op_credit X W KN KS c ℓ s (s - 1) s (by omega) (by omega) (credTo c (s - 1) ℓ) (credTo_eq c ⟨s - 1, by omega⟩ ℓ) O K Q
  · rw [if_neg h, show min (s - 1) 12 = min s 12 by omega]
    iintro ⟨-, H⟩ Hk
    iapply Hk; iexact H

/-- The waits of round `s` before its slot is written. -/
theorem op_freeIf (c : Dev nD) (ℓ : Fin 4) (s : ℕ) (hs : s ≤ 14) (O : CellTallies nD τ sig ℕ) (hO : Above (2 * s - 3) O) (K : P F) (Q : PUnit → sProp 𝕄) :
    iprop(recs (F := F) X W KN KS ∗ Entered (dst c ℓ) ∗ SendSt c ℓ s (s - 3) ∗ TakeSt c ℓ (s - 3) ∗ OW c O)
      ⊢ iprop((SendSt c ℓ s (s - 2) ∗ TakeSt c ℓ (s - 2) ∗ ready (dst c ℓ) ℓ s ∗ OW c O -∗ WP c K Q) -∗ WP c (freeIf s ℓ K) Q) := by
  unfold freeIf
  by_cases h : 3 ≤ s
  · obtain ⟨t, rfl⟩ : ∃ t, s = t + 3 := ⟨s - 3, by omega⟩
    rw [if_pos h, show t + 3 - 3 = t by omega, show t + 3 - 2 = t + 1 by omega, slot_add]
    iintro ⟨#HR, -, Hs, Ht, HO⟩ Hk
    iapply (op_sent X W KN KS c ℓ (t + 3) t (by omega) (by omega) (by omega) O (hO.mono (Nat.zero_le _)) (take ℓ K) Q) $$ [Hs HO]
    · isplitr; · iexact HR
      isplitl [Hs]; · iexact Hs
      iexact HO
    iintro ⟨Hs, HO⟩
    iapply (op_take X W KN KS c ℓ t (by omega) O (hO.mono (by omega)) K Q) $$ [Ht HO]
    · isplitr; · iexact HR
      isplitl [Ht]; · iexact Ht
      iexact HO
    iintro ⟨Ht, HO⟩
    ihave Ht := (take_ready c ℓ t) $$ Ht
    icases Ht with ⟨Ht, Hr⟩
    iapply Hk
    isplitl [Hs]; · iexact Hs
    isplitl [Ht]; · iexact Ht
    isplitl [Hr]; · iexact Hr
    iexact HO
  · rw [if_neg h, show s - 3 = s - 2 by omega]
    iintro ⟨#HR, #HE, Hs, Ht, HO⟩ Hk
    ihave #H0 := (recs_reached X W KN KS (dst c ℓ) (some (.rcv ℓ (slot s)))) $$ HR
    iapply Hk
    isplitl [Hs]; · iexact Hs
    isplitl [Ht]; · iexact Ht
    isplitr
    · iapply (entered_ready (dst c ℓ) ℓ s (by omega))
      isplitr; · iexact H0
      iexact HE
    iexact HO

/-- What a slot stores of a value is the value, rounded. -/
theorem packV_cast (v : FVec F S256x512 .f32) :
    shapeCast S256x512 (packV v) shapeCasts_S1x256x512_S256x512 = truncf .bf16 v bitsLt_bf16_f32 := by
  unfold packV
  rw [shapeCast_shapeCast]

/-- The sum that a lane forms from its product and the message that came in. -/
theorem addV_acc (c : Dev nD) (ℓ : Fin 4) (s : ℕ) (r : Vec F S1x256x512 .bf16)
    (hr : shapeCast S256x512 r shapeCasts_S1x256x512_S256x512 = msg X W ℓ s (src c ℓ)) :
    addV (xrow X c ℓ (s + 1)) (wcol W c ℓ) r = acc X W ℓ (s + 1) c := by
  unfold addV
  rw [hr]; rfl

omit [FloatOps F] in
/-- A receiver knows who has opened its buffers. -/
theorem recv_heard (c : Dev nD) (ℓ : Fin 4) (q g : ℕ) :
    RecvSt (F := F) c ℓ q g ⊢ iprop(RecvSt (F := F) c ℓ q g ∗ heard (Entered (F := F)) (hops c ℓ g)) := by
  unfold RecvSt
  iintro ⟨H1, H2, H3, #H4⟩
  isplitl
  · isplitl [H1]; · iexact H1
    isplitl [H2]; · iexact H2
    isplitl [H3]; · iexact H3
    iexact H4
  iexact H4

/-- A lane of round 0. -/
theorem op_lane0 (c : Dev nD) (ℓ : Fin 4) (O T T' : CellTallies nD τ sig ℕ) (hT : T = O + laneOwe c ℓ 0) (hT' : T' = O + laneOwe c ℓ 1)
    (x : Vec F S256x256 .f32) (hx : x = xrow X c ℓ 0) (K : P F) (Q : PUnit → sProp 𝕄) :
    iprop(recs (F := F) X W KN KS ∗ Entered (dst c ℓ) ∗ (((c : Thread nD τ).loc cc0_stg1_0) ↦{fullShare} W c) ∗ LaneSt c ℓ 0 ∗ OW c T)
      ⊢ iprop((((((c : Thread nD τ).loc cc0_stg1_0) ↦{fullShare} W c) ∗ LaneSt c ℓ 1 ∗ OW c T') -∗ WP c K Q) -∗ WP c (lane0 (Memref.whole cc0_stg1_0) c ℓ x K) Q) := by
  subst hT hT' hx
  unfold lane0 LaneSt laneOwe
  rw [show 0 - 3 = 0 from rfl, show min 0 12 = 0 from rfl]
  iintro ⟨#HR, #HE, Hw, ⟨Hs, Hr, Hg, Ht⟩, HO⟩ Hk
  iapply (op_loadW W c ℓ _ Q) $$ Hw
  iintro Hw
  ihave #H0 := (recs_reached X W KN KS (dst c ℓ) (some (.rcv ℓ (slot 0)))) $$ HR
  ihave Hr := (recv_heard c ℓ 0 0) $$ Hr
  icases Hr with ⟨Hr, #Hh⟩
  iapply (op_put X W KN KS c ℓ 0 0 0 (by omega) (by omega) (by omega) (sendTo c 0 ℓ) (sendTo_eq c 0 ℓ) (packV (prodV (xrow X c ℓ 0) (wcol W c ℓ)))
    (packV_cast _) O K Q) $$ [Hs HO]
  · isplitr; · iexact HR
    isplitr
    · iapply (entered_ready (dst c ℓ) ℓ 0 (by omega))
      isplitr; · iexact H0
      iexact HE
    isplitr; · iexact Hh
    isplitl [Hs]; · iexact Hs
    iexact HO
  iintro ⟨Hs, HO⟩
  iapply Hk
  isplitl [Hw]; · iexact Hw
  isplitr [HO]
  · isplitl [Hs]; · iexact Hs
    isplitl [Hr]; · iexact Hr
    isplitl [Hg]; · iexact Hg
    iexact Ht
  iexact HO

/-- A lane of a middle round. -/
theorem op_laneN (c : Dev nD) (ℓ : Fin 4) (t : ℕ) (ht : t < 14) (O T T' : CellTallies nD τ sig ℕ) (hO : Above (2 * (t + 1)) O)
    (hT : T = O + laneOwe c ℓ (t + 1)) (hT' : T' = O + laneOwe c ℓ (t + 2))
    (x : Vec F S256x256 .f32) (hx : x = xrow X c ℓ (t + 1)) (K : P F) (Q : PUnit → sProp 𝕄) :
    iprop(recs (F := F) X W KN KS ∗ Entered c ∗ Entered (dst c ℓ) ∗ (((c : Thread nD τ).loc cc0_stg1_0) ↦{fullShare} W c) ∗ LaneSt c ℓ (t + 1) ∗ OW c T)
      ⊢ iprop((((((c : Thread nD τ).loc cc0_stg1_0) ↦{fullShare} W c) ∗ LaneSt c ℓ (t + 2) ∗ OW c T') -∗ WP c K Q)
        -∗ WP c (laneN (Memref.whole cc0_stg1_0) c (t + 1) ℓ x K) Q) := by
  subst hT hT' hx
  unfold laneN LaneSt laneOwe
  rw [show t + 1 - 1 = t by omega, show t + 2 - 1 = t + 1 by omega, show t + 2 - 3 = t + 1 - 2 by omega]
  iintro ⟨#HR, #HEc, #HE, Hw, ⟨Hs, Hr, Hg, Ht⟩, HO⟩ Hk
  iapply (op_loadW W c ℓ _ Q) $$ Hw
  iintro Hw
  iapply (op_recv X W KN KS c ℓ (min t 12) t (by omega) (by omega) (O + owe c ℓ (t + 1) (min t 12))
    (hO.add (by
      have h := above_laneOwe c ℓ (t + 1) (2 * t + 2) (by omega) (by omega)
      unfold laneOwe at h
      rwa [show t + 1 - 1 = t by omega] at h)) _ Q) $$ [Hr HO]
  · isplitr; · iexact HR
    isplitr; · iexact HEc
    isplitl [Hr]; · iexact Hr
    iexact HO
  iintro %r ⟨%hr, Hr, HO⟩
  rw [addV_acc X W c ℓ t r hr]
  iapply (op_creditIf X W KN KS c ℓ (t + 1) (by omega) O _ Q) $$ [Hr Hg HO]
  · isplitr; · iexact HR
    rw [show t + 1 - 1 = t by omega]
    isplitl [Hr]; · iexact Hr
    isplitl [Hg]; · iexact Hg
    iexact HO
  iintro ⟨Hr, Hg, HO⟩
  iapply (op_freeIf X W KN KS c ℓ (t + 1) (by omega) (O + owe c ℓ (t + 1) (min (t + 1) 12))
    ((hO.mono (by omega)).add (by
      refine (Above.sum _ _ fun i hi => ?_).add (Above.sum _ _ fun n hn => ?_)
      · have := Finset.mem_Ico.mp hi
        exact Above.tally _ (some (.rcv ℓ (slot i))) _ (by omega) (show 2 * (t + 1) - 3 < 2 * i + 2 by omega)
      · have := Finset.mem_Ico.mp hn
        exact Above.tally _ (some (.crd ℓ)) _ (by omega) (show 2 * (t + 1) - 3 < 2 * n + 3 by omega))) _ Q) $$ [Hs Ht HO]
  · isplitr; · iexact HR
    isplitr; · iexact HE
    isplitl [Hs]; · iexact Hs
    isplitl [Ht]; · iexact Ht
    iexact HO
  iintro ⟨Hs, Ht, Hrd, HO⟩
  ihave Hr := (recv_heard c ℓ (min (t + 1) 12) (t + 1)) $$ Hr
  icases Hr with ⟨Hr, #Hh⟩
  iapply (op_put X W KN KS c ℓ (t + 1) (min (t + 1) 12) (t + 1 - 2) (by omega) (by omega) (by omega) (sendTo c (t + 1) ℓ)
    (sendTo_eq c ⟨t + 1, by omega⟩ ℓ) (packV (acc X W ℓ (t + 1) c)) (packV_cast _) O K Q) $$ [Hrd Hs HO]
  · isplitr; · iexact HR
    isplitl [Hrd]; · iexact Hrd
    isplitr; · iexact Hh
    isplitl [Hs]; · iexact Hs
    iexact HO
  iintro ⟨Hs, HO⟩
  iapply Hk
  isplitl [Hw]; · iexact Hw
  isplitr [HO]
  · isplitl [Hs]; · iexact Hs
    isplitl [Hr]; · iexact Hr
    isplitl [Hg]; · iexact Hg
    iexact Ht
  iexact HO

/-! ### All four lanes -/

/-- What the device owes before round `s`, the exchange included. -/
def oweAll (c : Dev nD) (s0 s1 s2 s3 : ℕ) : CellTallies nD τ sig ℕ :=
  oweA c 1 + laneOwe c 0 s0 + laneOwe c 1 s1 + laneOwe c 2 s2 + laneOwe c 3 s3

/-- The device's inputs. -/
def ins (c : Dev nD) : sProp 𝕄 :=
  iprop((((c : Thread nD τ).loc cc0_stg0_0) ↦{fullShare} X c) ∗ (((c : Thread nD τ).loc cc0_stg1_0) ↦{fullShare} W c))

/-- The device before round `s`. -/
def RoundSt (c : Dev nD) (s : ℕ) : sProp 𝕄 :=
  iprop(LaneSt c 0 s ∗ LaneSt c 1 s ∗ LaneSt c 2 s ∗ LaneSt c 3 s ∗ ins X W c ∗ OW c (oweAll c s s s s))

/-- Who must have opened its buffers before a device's first message. -/
def Nbrs (c : Dev nD) : sProp 𝕄 := iprop(Entered (F := F) c ∗ Entered (F := F) (rgt c) ∗ Entered (F := F) (lft c))
omit [FloatOps F] in
instance nbrs_pers (c : Dev nD) : BI.Persistent (Nbrs (F := F) c) := by unfold Nbrs; infer_instance

/-- Round 0. -/
theorem op_round0 (c : Dev nD) (K : P F) (Q : PUnit → sProp 𝕄) :
    iprop(recs (F := F) X W KN KS ∗ Nbrs c ∗ RoundSt X W c 0)
      ⊢ iprop((RoundSt X W c 1 -∗ WP c K Q) -∗ WP c (round0 (Memref.whole cc0_stg0_0) (Memref.whole cc0_stg1_0) c K) Q) := by
  unfold round0 RoundSt ins Nbrs
  iintro ⟨#HR, ⟨#HE, #HEr, #HEl⟩, ⟨H0, H1, H2, H3, ⟨Hx, Hw⟩, HO⟩⟩ Hk
  iapply (op_loadX X c 0 _ Q) $$ Hx
  iintro Hx
  iapply (op_lane0 X W KN KS c 0 (oweA c 1 + laneOwe c 1 0 + laneOwe c 2 0 + laneOwe c 3 0) (oweAll c 0 0 0 0) (oweAll c 1 0 0 0) (by unfold oweAll; abel) (by unfold oweAll; abel)
    _ rfl _ Q) $$ [Hw H0 HO]
  · isplitr; · iexact HR
    isplitr; · iexact HEr
    isplitl [Hw]; · iexact Hw
    isplitl [H0]; · iexact H0
    iexact HO
  iintro ⟨Hw, H0, HO⟩
  iapply (op_lane0 X W KN KS c 1 (oweA c 1 + laneOwe c 0 1 + laneOwe c 2 0 + laneOwe c 3 0) (oweAll c 1 0 0 0) (oweAll c 1 1 0 0) (by unfold oweAll; abel) (by unfold oweAll; abel)
    _ rfl _ Q) $$ [Hw H1 HO]
  · isplitr; · iexact HR
    isplitr; · iexact HEl
    isplitl [Hw]; · iexact Hw
    isplitl [H1]; · iexact H1
    iexact HO
  iintro ⟨Hw, H1, HO⟩
  iapply (op_lane0 X W KN KS c 2 (oweA c 1 + laneOwe c 0 1 + laneOwe c 1 1 + laneOwe c 3 0) (oweAll c 1 1 0 0) (oweAll c 1 1 1 0) (by unfold oweAll; abel) (by unfold oweAll; abel)
    _ rfl _ Q) $$ [Hw H2 HO]
  · isplitr; · iexact HR
    isplitr; · iexact HEr
    isplitl [Hw]; · iexact Hw
    isplitl [H2]; · iexact H2
    iexact HO
  iintro ⟨Hw, H2, HO⟩
  iapply (op_lane0 X W KN KS c 3 (oweA c 1 + laneOwe c 0 1 + laneOwe c 1 1 + laneOwe c 2 1) (oweAll c 1 1 1 0) (oweAll c 1 1 1 1) (by unfold oweAll; abel) (by unfold oweAll; abel)
    _ rfl _ Q) $$ [Hw H3 HO]
  · isplitr; · iexact HR
    isplitr; · iexact HEl
    isplitl [Hw]; · iexact Hw
    isplitl [H3]; · iexact H3
    iexact HO
  iintro ⟨Hw, H3, HO⟩
  iapply Hk
  isplitl [H0]; · iexact H0
  isplitl [H1]; · iexact H1
  isplitl [H2]; · iexact H2
  isplitl [H3]; · iexact H3
  isplitl [Hx Hw]
  · isplitl [Hx]; · iexact Hx
    iexact Hw
  iexact HO

theorem above_round (c : Dev nD) (ℓ : Fin 4) (t : ℕ) (ht : t < 15) : Above (2 * (t + 1)) (laneOwe c ℓ (t + 1)) ∧ Above (2 * (t + 1)) (laneOwe c ℓ (t + 2)) :=
  ⟨above_laneOwe c ℓ _ _ (by omega) (by omega), above_laneOwe c ℓ _ _ (by omega) (by omega)⟩

/-- A middle round. -/
theorem op_roundN (c : Dev nD) (t : ℕ) (ht : t < 14) (s : Fin 16) (hs : s.val = t + 1) (K : P F) (Q : PUnit → sProp 𝕄) :
    iprop(recs (F := F) X W KN KS ∗ Nbrs c ∗ RoundSt X W c (t + 1))
      ⊢ iprop((RoundSt X W c (t + 2) -∗ WP c K Q) -∗ WP c (roundN (Memref.whole cc0_stg0_0) (Memref.whole cc0_stg1_0) c s K) Q) := by
  unfold roundN RoundSt ins Nbrs
  have hA : Above (2 * (t + 1)) (oweA c 1) := above_oweA c 1 _ (by omega)
  have hl := fun ℓ => above_round c ℓ t (by omega)
  iintro ⟨#HR, ⟨#HE, #HEr, #HEl⟩, ⟨H0, H1, H2, H3, ⟨Hx, Hw⟩, HO⟩⟩ Hk
  iapply (op_loadX X c s _ Q) $$ Hx
  iintro Hx
  rw [hs]
  iapply (op_laneN X W KN KS c 0 t ht (oweA c 1 + laneOwe c 1 (t + 1) + laneOwe c 2 (t + 1) + laneOwe c 3 (t + 1)) (oweAll c (t + 1) (t + 1) (t + 1) (t + 1)) (oweAll c (t + 2) (t + 1) (t + 1) (t + 1))
    (((hA.add (hl 1).1).add (hl 2).1).add (hl 3).1) (by unfold oweAll; abel) (by unfold oweAll; abel) _ rfl _ Q) $$ [Hw H0 HO]
  · isplitr; · iexact HR
    isplitr; · iexact HE
    isplitr; · iexact HEr
    isplitl [Hw]; · iexact Hw
    isplitl [H0]; · iexact H0
    iexact HO
  iintro ⟨Hw, H0, HO⟩
  iapply (op_laneN X W KN KS c 1 t ht (oweA c 1 + laneOwe c 0 (t + 2) + laneOwe c 2 (t + 1) + laneOwe c 3 (t + 1)) (oweAll c (t + 2) (t + 1) (t + 1) (t + 1)) (oweAll c (t + 2) (t + 2) (t + 1) (t + 1))
    (((hA.add (hl 0).2).add (hl 2).1).add (hl 3).1) (by unfold oweAll; abel) (by unfold oweAll; abel) _ rfl _ Q) $$ [Hw H1 HO]
  · isplitr; · iexact HR
    isplitr; · iexact HE
    isplitr; · iexact HEl
    isplitl [Hw]; · iexact Hw
    isplitl [H1]; · iexact H1
    iexact HO
  iintro ⟨Hw, H1, HO⟩
  iapply (op_laneN X W KN KS c 2 t ht (oweA c 1 + laneOwe c 0 (t + 2) + laneOwe c 1 (t + 2) + laneOwe c 3 (t + 1)) (oweAll c (t + 2) (t + 2) (t + 1) (t + 1)) (oweAll c (t + 2) (t + 2) (t + 2) (t + 1))
    (((hA.add (hl 0).2).add (hl 1).2).add (hl 3).1) (by unfold oweAll; abel) (by unfold oweAll; abel) _ rfl _ Q) $$ [Hw H2 HO]
  · isplitr; · iexact HR
    isplitr; · iexact HE
    isplitr; · iexact HEr
    isplitl [Hw]; · iexact Hw
    isplitl [H2]; · iexact H2
    iexact HO
  iintro ⟨Hw, H2, HO⟩
  iapply (op_laneN X W KN KS c 3 t ht (oweA c 1 + laneOwe c 0 (t + 2) + laneOwe c 1 (t + 2) + laneOwe c 2 (t + 2)) (oweAll c (t + 2) (t + 2) (t + 2) (t + 1)) (oweAll c (t + 2) (t + 2) (t + 2) (t + 2))
    (((hA.add (hl 0).2).add (hl 1).2).add (hl 2).2) (by unfold oweAll; abel) (by unfold oweAll; abel) _ rfl _ Q) $$ [Hw H3 HO]
  · isplitr; · iexact HR
    isplitr; · iexact HE
    isplitr; · iexact HEl
    isplitl [Hw]; · iexact Hw
    isplitl [H3]; · iexact H3
    iexact HO
  iintro ⟨Hw, H3, HO⟩
  iapply Hk
  isplitl [H0]; · iexact H0
  isplitl [H1]; · iexact H1
  isplitl [H2]; · iexact H2
  isplitl [H3]; · iexact H3
  isplitl [Hx Hw]
  · isplitl [Hx]; · iexact Hx
    iexact Hw
  iexact HO

/-- The middle rounds from round `t + 1` on. -/
theorem op_rounds (c : Dev nD) (K : P F) (Q : PUnit → sProp 𝕄) : ∀ n t, t + n = 14 →
    iprop(recs (F := F) X W KN KS ∗ Nbrs c ∗ RoundSt X W c (t + 1))
      ⊢ iprop((RoundSt X W c 15 -∗ WP c K Q)
        -∗ WP c (rounds (Memref.whole cc0_stg0_0) (Memref.whole cc0_stg1_0) c ((List.range' (t + 1) n).map (Fin.ofNat 16)) K) Q)
  | 0, t, h => by
    obtain rfl : t = 14 := h
    iintro ⟨-, -, H⟩ Hk
    iapply Hk; iexact H
  | n + 1, t, h => by
    iintro ⟨#HR, #HN, H⟩ Hk
    iapply (op_roundN X W KN KS c t (by omega) (Fin.ofNat 16 (t + 1)) (Nat.mod_eq_of_lt (by omega))
      (rounds (Memref.whole cc0_stg0_0) (Memref.whole cc0_stg1_0) c ((List.range' (t + 2) n).map (Fin.ofNat 16)) K) Q) $$ [H]
    · isplitr; · iexact HR
      isplitr; · iexact HN
      iexact H
    iintro H
    iapply (op_rounds c K Q n (t + 1) (by omega)) $$ [H]
    · isplitr; · iexact HR
      isplitr; · iexact HN
      iexact H
    iexact Hk

end Cert.KernelIdeal.Ring

end
-- ==== Proof.Exchange.lean ====
/-
# The last round and the exchange

Round 15 leaves the device's four blocks in the output. The device then copies its largest absolute value to every other
device, waits for theirs, and scales the output by the largest of all. Each copy reads a share of the device's own value;
the shares come back when the copies have left.
-/
module

public import proofs.«01_k».proof.Proof.Rounds
public import Idealize.ShloMosaic.Lib.Pointwise.Index

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release heard)

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))
variable (KN : Dev nD × Option CK → ℕ) (KS : RK → ℕ)

/-! ### The last round -/

/-- The output's staging buffer. -/
abbrev om : Memref sig .tc .vmem S256x2048 .f32 := Memref.whole cc0_stg2_0

/-- The lanes of which the output holds the finished blocks. -/
def OutSt (c : Dev nD) (n : ℕ) : sProp 𝕄 :=
  iprop(∃ f : (cc0_stg2_0 : Ref sig .tc).ty.Contents (Elt F), ⌜∀ ℓ : Fin 4, ℓ.val < n → om.view.readAt (Elt F) (colR ℓ).toLoadRect f = acc X W ℓ 15 c⌝
    ∗ (((c : Thread nD τ).loc cc0_stg2_0) ↦{fullShare} f))

theorem colR_disjoint (ℓ ℓ' : Fin 4) (h : ℓ ≠ ℓ') : Disjoint (colR ℓ).set (colR ℓ').set := by
  rw [Finset.disjoint_left]
  intro i hi hi'
  have h1 := (Rect.mem_set_unit.mp hi) 1
  have h2 := (Rect.mem_set_unit.mp hi') 1
  have e : S256x512.size 1 = 512 := rfl
  rw [e] at h1 h2
  have hc : ∀ ℓ, (![0, col ℓ] : Fin 2 → ℕ) 1 = col ℓ := fun _ => rfl
  rw [hc] at h1 h2
  have hd : ∀ ℓ ℓ' : Fin 4, ℓ ≠ ℓ' → col ℓ + 512 ≤ col ℓ' ∨ col ℓ' + 512 ≤ col ℓ := by decide
  rcases hd ℓ ℓ' h with h' | h' <;> omega

/-- A finished block is put into the output. -/
theorem op_putOut (c : Dev nD) (ℓ : Fin 4) (K : P F) (Q : PUnit → sProp 𝕄) :
    OutSt X W c ℓ.val ⊢ iprop((OutSt X W c (ℓ.val + 1) -∗ WP c K Q) -∗ WP c (putOut om ℓ (acc X W ℓ 15 c) K) Q) := by
  unfold putOut OutSt
  iintro ⟨%f, %hf, H⟩ Hk
  iapply (wp_load 𝒱₀ (c : Thread nD τ) none Set.univ (m := om) (r := (colR ℓ).toLoadRect) (S := Finset.univ) (q := fullShare) (f := f)
    (Finset.subset_univ _)) $$ H
  iintro H
  iapply (wp_store 𝒱₀ (c : Thread nD τ) none Set.univ (m := om) (r := colR ℓ) (w := acc X W ℓ 15 c) (Mk := Finset.univ) (S := Finset.univ) (f := f)
    (Finset.subset_univ _)) $$ H
  iintro H
  iapply Hk
  iexists _
  isplitr
  rotate_left
  · iexact H
  ipureintro
  intro ℓ' hl
  by_cases h : ℓ' = ℓ
  · subst h
    exact View.read_write_univ (v := om.access (colR ℓ')) f (acc X W ℓ' 15 c)
  · refine (View.read_slice_write_slice_of_disjoint (v := om.view) (colR ℓ') (colR ℓ) f (acc X W ℓ 15 c) Finset.univ ?_).trans
      (hf ℓ' (by have : ℓ'.val ≠ ℓ.val := fun e => h (Fin.ext e); omega))
    show Disjoint (om.view.slice (colR ℓ')).set (om.view.slice (colR ℓ)).set
    rw [Memref.view_whole, View.set_slice_whole, View.set_slice_whole]
    exact colR_disjoint ℓ' ℓ h

/-- A lane of round 15. -/
theorem op_laneZ (c : Dev nD) (ℓ : Fin 4) (O : CellTallies nD τ sig ℕ) (hO : Above 30 O)
    (x : Vec F S256x256 .f32) (hx : x = xrow X c ℓ 15) (K : F .f32 → P F) (Q : PUnit → sProp 𝕄) :
    iprop(recs (F := F) X W KN KS ∗ Entered c ∗ (((c : Thread nD τ).loc cc0_stg1_0) ↦{fullShare} W c) ∗ LaneSt c ℓ 15 ∗ OutSt X W c ℓ.val ∗ OW c O)
      ⊢ iprop((((((c : Thread nD τ).loc cc0_stg1_0) ↦{fullShare} W c) ∗ DoneSt c ℓ ∗ OutSt X W c (ℓ.val + 1) ∗ OW c O) -∗ WP c (K (absMaxV (acc X W ℓ 15 c))) Q)
        -∗ WP c (laneZ (Memref.whole cc0_stg1_0) om ℓ x K) Q) := by
  subst hx
  unfold laneZ LaneSt DoneSt
  iintro ⟨#HR, #HEc, Hw, ⟨Hs, Hr, Hg, Ht⟩, Hout, HO⟩ Hk
  iapply (op_loadW W c ℓ _ Q) $$ Hw
  iintro Hw
  iapply (op_recv X W KN KS c ℓ 12 14 (by omega) (by omega) O hO _ Q) $$ [Hr HO]
  · isplitr; · iexact HR
    isplitr; · iexact HEc
    isplitl [Hr]; · iexact Hr
    iexact HO
  iintro %r ⟨%hr, Hr, HO⟩
  rw [addV_acc X W c ℓ 14 r hr]
  iapply (op_putOut X W c ℓ _ Q) $$ Hout
  iintro Hout
  iapply Hk
  isplitl [Hw]; · iexact Hw
  isplitr [Hout HO]
  · isplitl [Hs]; · iexact Hs
    isplitl [Hr]; · iexact Hr
    isplitl [Hg]; · iexact Hg
    iexact Ht
  isplitl [Hout]; · iexact Hout
  iexact HO

theorem oweAll_done (c : Dev nD) : oweAll c 15 15 15 15 = oweA c 1 := by
  have h : ∀ ℓ, laneOwe c ℓ 15 = 0 := fun ℓ => by
    unfold laneOwe owe
    rw [show Finset.Ico 15 15 = ∅ by decide, show Finset.Ico (min (15 - 1) 12) 12 = ∅ by decide]
    rw [Finset.sum_empty, Finset.sum_empty, add_zero]
  unfold oweAll; rw [h, h, h, h]; simp only [add_zero]

/-- Round 15. -/
theorem op_roundZ (c : Dev nD) (K : FVec F S8x128 .f32 → P F) (Q : PUnit → sProp 𝕄) :
    iprop(recs (F := F) X W KN KS ∗ Entered c ∗ OutSt X W c 0 ∗ RoundSt X W c 15)
      ⊢ iprop((DoneSt c 0 ∗ DoneSt c 1 ∗ DoneSt c 2 ∗ DoneSt c 3 ∗ ins X W c ∗ OutSt X W c 4 ∗ OW c (oweA c 1) -∗ WP c (K (amx X W c)) Q)
        -∗ WP c (roundZ (Memref.whole cc0_stg0_0) (Memref.whole cc0_stg1_0) om c K) Q) := by
  unfold roundZ RoundSt ins
  rw [oweAll_done]
  have hA : Above 30 (oweA c 1) := above_oweA c 1 _ (by decide)
  iintro ⟨#HR, #HE, Hout, ⟨H0, H1, H2, H3, ⟨Hx, Hw⟩, HO⟩⟩ Hk
  iapply (op_loadX X c 15 _ Q) $$ Hx
  iintro Hx
  iapply (op_laneZ X W KN KS c 0 (oweA c 1) hA _ rfl _ Q) $$ [Hw H0 Hout HO]
  · isplitr; · iexact HR
    isplitr; · iexact HE
    isplitl [Hw]; · iexact Hw
    isplitl [H0]; · iexact H0
    isplitl [Hout]; · iexact Hout
    iexact HO
  iintro ⟨Hw, H0, Hout, HO⟩
  iapply (op_laneZ X W KN KS c 1 (oweA c 1) hA _ rfl _ Q) $$ [Hw H1 Hout HO]
  · isplitr; · iexact HR
    isplitr; · iexact HE
    isplitl [Hw]; · iexact Hw
    isplitl [H1]; · iexact H1
    isplitl [Hout]; · iexact Hout
    iexact HO
  iintro ⟨Hw, H1, Hout, HO⟩
  iapply (op_laneZ X W KN KS c 2 (oweA c 1) hA _ rfl _ Q) $$ [Hw H2 Hout HO]
  · isplitr; · iexact HR
    isplitr; · iexact HE
    isplitl [Hw]; · iexact Hw
    isplitl [H2]; · iexact H2
    isplitl [Hout]; · iexact Hout
    iexact HO
  iintro ⟨Hw, H2, Hout, HO⟩
  iapply (op_laneZ X W KN KS c 3 (oweA c 1) hA _ rfl _ Q) $$ [Hw H3 Hout HO]
  · isplitr; · iexact HR
    isplitr; · iexact HE
    isplitl [Hw]; · iexact Hw
    isplitl [H3]; · iexact H3
    isplitl [Hout]; · iexact Hout
    iexact HO
  iintro ⟨Hw, H3, Hout, HO⟩
  iapply Hk
  isplitl [H0]; · iexact H0
  isplitl [H1]; · iexact H1
  isplitl [H2]; · iexact H2
  isplitl [H3]; · iexact H3
  isplitl [Hx Hw]
  · isplitl [Hx]; · iexact Hx
    iexact Hw
  isplitl [Hout]; · iexact Hout
  iexact HO

/-- The lane whose columns hold column `j`. -/
def laneOf (j : ℕ) : Fin 4 := if j < 512 then 0 else if j < 1024 then 2 else if j < 1536 then 1 else 3
/-- The device's rows of the sum. -/
def outY (c : Dev nD) : Vec F S256x2048 .f32 := fun i =>
  acc X W (laneOf (i 1).val) 15 c (ix2 (i 0) ⟨(i 1).val % 512, Nat.mod_lt _ (by decide)⟩)

/-- The four blocks make up the device's rows. -/
theorem outSt_full (c : Dev nD) : OutSt X W c 4 ⊢ (((c : Thread nD τ).loc cc0_stg2_0) ↦{fullShare} outY X W c : sProp 𝕄) := by
  unfold OutSt
  iintro ⟨%f, %hf, H⟩
  have he : f = outY X W c := by
    funext i
    have hj : (i 1).val < 2048 := (i 1).isLt
    have h := congrFun (hf (laneOf (i 1).val) (laneOf (i 1).val).isLt) (ix2 (i 0) ⟨(i 1).val % 512, Nat.mod_lt _ (by decide)⟩)
    refine Eq.trans ?_ h
    rw [View.readAt_apply]
    show f i = f _
    refine congrArg f (funext fun a => Fin.ext ?_)
    have hcol : col (laneOf (i 1).val) + (i 1).val % 512 = (i 1).val := by
      unfold laneOf
      split
      · show 0 + _ = _; omega
      split
      · show 512 + _ = _; omega
      split
      · show 1024 + _ = _; omega
      · show 1536 + _ = _; omega
    fin_cases a
    · show (i 0).val = 0 + 1 * (i 0).val
      omega
    · show (i 1).val = col (laneOf (i 1).val) + 1 * ((i 1).val % 512)
      omega
  subst he
  iexact H

/-! ### The copies to the partners -/

/-- What the copy to partner `j` needs: its two payments and its write of the partner's slot. -/
def exTok (c : Dev nD) (j : Fin 16) : sProp 𝕄 :=
  iprop(dutyTok (ER (F := F)) (cell c (.asn j)) 0 0 ∗ dutyTok (ER (F := F)) (cell (par c j) (.arc j)) 0 0 ∗ writeTok (EK (F := F)) (akey (par c j) j) 1)
/-- The right to wait for the departure of the copy to partner `j`. -/
def exCred (c : Dev nD) (j : Fin 16) : sProp 𝕄 := cred (tallyAt (cell c (.asn j)) 0 NA)

/-- Before the copy to partner `j`. -/
def StartSt (c : Dev nD) (j : ℕ) : sProp 𝕄 :=
  iprop(at_ c am (shRem (j - 1)) (amx X W c) ∗ bigSep (Finset.Ico j 16) (fun i => exTok c (Fin.ofNat 16 i))
    ∗ bigSep (Finset.Ico 1 j) (fun i => exCred c (Fin.ofNat 16 i)) ∗ OW c (oweA c j))

theorem oweA_succ (c : Dev nD) (j : ℕ) (h : j < 16) :
    oweA c j = oweA c (j + 1) + tallyAt (cell (par c (Fin.ofNat 16 j)) (.arc (Fin.ofNat 16 j))) 0 NA := by
  unfold oweA; rw [ico_insert h, Finset.sum_insert (by simp), add_comm]

theorem ofNat_ne (j : ℕ) (h : 1 ≤ j) (h' : j < 16) : (Fin.ofNat 16 j : Fin 16) ≠ 0 := fun e => by
  have := congrArg Fin.val e
  rw [show (Fin.ofNat 16 j : Fin 16).val = j % 16 from rfl, Nat.mod_eq_of_lt h'] at this
  exact absurd this (by show j ≠ 0; omega)

/-- The copies to the partners from `j` on. -/
theorem op_exchStart (c : Dev nD) (K : P F) (Q : PUnit → sProp 𝕄) : ∀ n j, 1 ≤ j → j + n = 16 →
    iprop(recs (F := F) X W KN KS ∗ heard (Entered (F := F)) Finset.univ ∗ StartSt X W c j)
      ⊢ iprop((StartSt X W c 16 -∗ WP c K Q) -∗ WP c (exchStart c ((List.range' j n).map (Fin.ofNat 16)) K) Q)
  | 0, j, _, h => by
    obtain rfl : j = 16 := h
    iintro ⟨-, -, H⟩ Hk
    iapply Hk; iexact H
  | n + 1, j, h1, h => by
    have hj : j < 16 := by omega
    have hne := ofNat_ne j h1 hj
    have ih := op_exchStart c K Q n (j + 1) (by omega) (by omega)
    obtain ⟨p, rfl⟩ : ∃ p, j = p + 1 := ⟨j - 1, by omega⟩
    have hval : (Fin.ofNat 16 (p + 1) : Fin 16).val = p + 1 := Nat.mod_eq_of_lt hj
    unfold StartSt at ih ⊢
    rw [win_pop hj, oweA_succ c (p + 1) hj]
    rw [win_push (show 1 ≤ p + 1 by omega)] at ih
    rw [show p + 1 - 1 = p by omega]
    rw [show p + 1 + 1 - 1 = p + 1 by omega] at ih
    have htk : exTok (F := F) c (Fin.ofNat 16 (p + 1)) = iprop(dutyTok (ER (F := F)) (cell c (.asn (Fin.ofNat 16 (p + 1)))) 0 0
      ∗ dutyTok (ER (F := F)) (cell (par c (Fin.ofNat 16 (p + 1))) (.arc (Fin.ofNat 16 (p + 1)))) 0 0 ∗ writeTok (EK (F := F)) (akey (par c (Fin.ofNat 16 (p + 1))) (Fin.ofNat 16 (p + 1))) 1) := rfl
    have hsh : at_ (F := F) c am (shRem p) (amx X W c) ⊢ iprop(at_ (F := F) c am (shPiece p) (amx X W c) ∗ at_ (F := F) c am (shRem (p + 1)) (amx X W c)) :=
      (pointsTo_share (PosShare.mem_left_op_right (shRem p))).1
    have hrel : heard (Entered (F := F)) Finset.univ ⊢ released (EK (F := F)) (akey (par c (Fin.ofNat 16 (p + 1))) (Fin.ofNat 16 (p + 1))) 1 := by
      have h1 : heard (Entered (F := F)) Finset.univ ⊢ Entered (F := F) (par c (Fin.ofNat 16 (p + 1))) := Release.heard_elim (Entered (F := F)) (Finset.mem_univ _)
      have h2 : bigSep Finset.univ (fun j : Fin 16 => released (EK (F := F)) (akey (par c (Fin.ofNat 16 (p + 1))) j) 1)
          ⊢ released (EK (F := F)) (akey (par c (Fin.ofNat 16 (p + 1))) (Fin.ofNat 16 (p + 1))) 1 :=
        bigSep_elim (Φ := fun j : Fin 16 => released (EK (F := F)) (akey (par c (Fin.ofNat 16 (p + 1))) j) 1) (Finset.mem_univ (Fin.ofNat 16 (p + 1)))
      refine h1.trans ?_
      unfold Entered
      iintro ⟨-, H⟩
      iapply h2; iexact H
    have htake : iprop(recs (F := F) X W KN KS ∗ released (EK (F := F)) (akey (par c (Fin.ofNat 16 (p + 1))) (Fin.ofNat 16 (p + 1))) 1
        ∗ writeTok (EK (F := F)) (akey (par c (Fin.ofNat 16 (p + 1))) (Fin.ofNat 16 (p + 1))) 1)
        ⊢ (|={Set.univ}=> any_ (F := F) (par c (Fin.ofNat 16 (p + 1))) (partM (Fin.ofNat 16 (p + 1))) : sProp 𝕄) :=
      (sep_mono_left (recs_slot X W KN KS _)).trans
        (slot_take (E := EK (F := F)) (S := keyPlace (akey (par c (Fin.ofNat 16 (p + 1))) (Fin.ofNat 16 (p + 1)))) (Set.mem_univ _) 1)
    have hcS : exCred (F := F) c (Fin.ofNat 16 (p + 1)) = cred (tallyAt (cell c (.asn (Fin.ofNat 16 (p + 1)))) 0 (amt (some (.asn (Fin.ofNat 16 (p + 1)))))) := rfl
    rw [htk]
    rw [hcS] at ih
    iintro ⟨#HR, #Hh, ⟨Ham, ⟨⟨Ht1, Ht2, Hw⟩, Htok⟩, Hcs, HO⟩⟩ Hk
    ihave #Hrel := hrel $$ Hh
    imod htake $$ [Hw] with Hd
    · isplitr; · iexact HR
      isplitr; · iexact Hrel
      iexact Hw
    ihave Ham := hsh $$ Ham
    icases Ham with ⟨Hp, Ham⟩
    ihave #H1 := (recs_reached X W KN KS c (some (.asn (Fin.ofNat 16 (p + 1))))) $$ HR
    ihave #H2 := (recs_reached X W KN KS (par c (Fin.ofNat 16 (p + 1))) (some (.arc (Fin.ofNat 16 (p + 1))))) $$ HR
    iapply (send_one X W KN KS c (par c (Fin.ofNat 16 (p + 1))) (.asn (Fin.ofNat 16 (p + 1))) (.arc (Fin.ofNat 16 (p + 1))) 0 0 0
      (by rw [show duties (some (.asn (Fin.ofNat 16 (p + 1)))) 0 = {0} from if_pos ⟨rfl, hne⟩]; exact Finset.mem_singleton_self _)
      (by rw [show duties (some (.arc (Fin.ofNat 16 (p + 1)))) 0 = {0} from if_pos ⟨rfl, hne⟩]; exact Finset.mem_singleton_self _)
      (srcM := am) (dstM := partM (Fin.ofNat 16 (p + 1))) (partTo c (Fin.ofNat 16 (p + 1) : Fin 16).val) (par_ne c _ hne) rfl rfl rfl rfl (shPiece p) (amx X W c)
      iprop(emp) (oweA c (p + 1 + 1))
      (by
        show _ ⊢ at_ (F := F) c am (shPiece ((Fin.ofNat 16 (p + 1) : Fin 16).val - 1)) (amx X W c)
        rw [hval, show p + 1 - 1 = p by omega])
      (fun fd => by
        show _ ⊢ holds (F := F) (par c (Fin.ofNat 16 (p + 1))) (partM (Fin.ofNat 16 (p + 1))) fullShare (amx X W (par (par c (Fin.ofNat 16 (p + 1))) (Fin.ofNat 16 (p + 1))))
        rw [par_par]
        unfold holds
        iintro ⟨H, -⟩
        iexists _
        isplitr
        rotate_left
        · iexact H
        · ipureintro
          exact (View.read_write_univ _ _).trans (View.read_whole _ _))
      (fun _ => exchStart c ((List.range' (p + 1 + 1) n).map (Fin.ofNat 16)) K) Q) $$ [Hp Hd HO Ht1 Ht2]
    · isplitr; · iexact HR
      isplitl [Hp]; · iexact Hp
      isplitl [Hd]; · iexact Hd
      isplitr; · iempintro
      isplitl [HO]; · iexact HO
      isplitl [Ht1]; · iexact Ht1
      isplitr; · iexact H1
      isplitl [Ht2]; · iexact Ht2
      iexact H2
    iintro ⟨Hc, HO⟩
    iapply ih $$ [Ham Htok Hc Hcs HO]
    · isplitr; · iexact HR
      isplitr; · iexact Hh
      isplitl [Ham]; · iexact Ham
      isplitl [Htok]; · iexact Htok
      isplitl [Hc Hcs]
      · isplitl [Hc]; · iexact Hc
        iexact Hcs
      iexact HO
    iexact Hk

/-! ### The end of the exchange -/

/-- A lane's last three copies have left. -/
theorem op_drain (c : Dev nD) (ℓ : Fin 4) (l : List (Fin 4 × Fin 3)) (K : P F) (Q : PUnit → sProp 𝕄) :
    iprop(recs (F := F) X W KN KS ∗ SendSt c ℓ 15 12 ∗ OW c 0)
      ⊢ iprop((SendSt c ℓ 15 15 ∗ OW c 0 -∗ WP c (drain l K) Q) -∗ WP c (drain ((ℓ, 0) :: (ℓ, 1) :: (ℓ, 2) :: l) K) Q) := by
  iintro ⟨#HR, Hs, HO⟩ Hk
  iapply (op_sent X W KN KS c ℓ 15 12 (by omega) (by omega) (by omega) 0 (Above.zero 0) (drain ((ℓ, 1) :: (ℓ, 2) :: l) K) Q) $$ [Hs HO]
  · isplitr; · iexact HR
    isplitl [Hs]; · iexact Hs
    iexact HO
  iintro ⟨Hs, HO⟩
  iapply (op_sent X W KN KS c ℓ 15 13 (by omega) (by omega) (by omega) 0 (Above.zero 0) (drain ((ℓ, 2) :: l) K) Q) $$ [Hs HO]
  · isplitr; · iexact HR
    isplitl [Hs]; · iexact Hs
    iexact HO
  iintro ⟨Hs, HO⟩
  iapply (op_sent X W KN KS c ℓ 15 14 (by omega) (by omega) (by omega) 0 (Above.zero 0) (drain l K) Q) $$ [Hs HO]
  · isplitr; · iexact HR
    isplitl [Hs]; · iexact Hs
    iexact HO
  iexact Hk

/-- The right to wait for partner `j`'s value, and the position before the wait. -/
def exWait (c : Dev nD) (j : Fin 16) : sProp 𝕄 :=
  iprop(cred (tallyAt (cell c (.arc j)) 0 NA) ∗ atPos (ER (F := F)) (cell c (.arc j)) 0 ∅ 0)
/-- Partner `j`'s slot after its value has been read. -/
def exDone (c : Dev nD) (j : Fin 16) : sProp 𝕄 :=
  iprop(any_ (F := F) c (partM j) ∗ atPos (ER (F := F)) (cell c (.arc j)) 1 ∅ 0)

omit [FloatOps F] in
theorem partM_set (j : Fin 16) : (partM j).view.set = ar.view.setOn (partR j).set := by
  show ((ar.view.slice (partR j)).reshape _ _).set = _
  rw [View.set_reshape, View.set_slice]; rfl

/-- The largest of the values of some partners. -/
def joinL (c : Dev nD) (l : List (Fin 16)) (a : FVec F S8x128 .f32) : FVec F S8x128 .f32 := l.foldl (fun a j => maximumf a (amx X W (par c j))) a

/-- The partners' values from `j` on come in. -/
theorem op_exchJoin (c : Dev nD) (K : FVec F S8x128 .f32 → P F) (Q : PUnit → sProp 𝕄) : ∀ n j a, 1 ≤ j → j + n = 16 →
    iprop(recs (F := F) X W KN KS ∗ bigSep (Finset.Ico j 16) (fun i => exWait (F := F) c (Fin.ofNat 16 i)) ∗ bigSep (Finset.Ico 1 j) (fun i => exDone (F := F) c (Fin.ofNat 16 i)) ∗ OW c 0)
      ⊢ iprop((bigSep (Finset.Ico 1 16) (fun i => exDone (F := F) c (Fin.ofNat 16 i)) ∗ OW c 0
          -∗ WP c (K (joinL X W c ((List.range' j n).map (Fin.ofNat 16)) a)) Q) -∗ WP c (exchJoin ((List.range' j n).map (Fin.ofNat 16)) a K) Q)
  | 0, j, a, _, h => by
    obtain rfl : j = 16 := h
    iintro ⟨-, -, H, HO⟩ Hk
    iapply Hk
    isplitl [H]; · iexact H
    iexact HO
  | n + 1, j, a, h1, h => by
    have hj : j < 16 := by omega
    have hne := ofNat_ne j h1 hj
    have ih := op_exchJoin c K Q n (j + 1) (maximumf a (amx X W (par c (Fin.ofNat 16 j)))) (by omega) (by omega)
    rw [win_push h1] at ih
    rw [win_pop hj]
    have hw : exWait (F := F) c (Fin.ofNat 16 j) = iprop(cred (tallyAt (cell c (.arc (Fin.ofNat 16 j))) 0 (amt (some (.arc (Fin.ofNat 16 j)))))
      ∗ atPos (ER (F := F)) (cell c (.arc (Fin.ofNat 16 j))) 0 ∅ 0) := rfl
    have hd : exDone (F := F) c (Fin.ofNat 16 j) = iprop((∃ f, at_ (F := F) c (partM (Fin.ofNat 16 j)) fullShare f) ∗ atPos (ER (F := F)) (cell c (.arc (Fin.ofNat 16 j))) 1 ∅ 0) := rfl
    rw [hw]
    rw [hd] at ih
    iintro ⟨#HR, ⟨⟨Hc, Hat⟩, Hws⟩, Hds, HO⟩ Hk
    iapply (wait_one X W KN KS c (.arc (Fin.ofNat 16 j)) 0 0 1000 (if_pos ⟨rfl, hne⟩) (by decide) (Nat.le_refl _)
      (fun K => (wpE_waitDma2_eq 𝒱₀ (c : Thread nD τ) none Set.univ K).trans (by rfl)) 0 (Above.zero _)
      (fun _ => .op (.load ar (partR (Fin.ofNat 16 j)).toLoadRect (View.loadsAt_vmem h_S1x8x128)) fun r =>
        exchJoin ((List.range' (j + 1) n).map (Fin.ofNat 16)) (joinV a r) K) Q) $$ [Hc HO Hat]
    · isplitr; · iexact HR
      isplitl [Hc]; · iexact Hc
      isplitl [HO]; · iexact HO
      iexact Hat
    iintro ⟨HO, Hat, -, Hpay⟩
    have hpay : pay X W c (some (.arc (Fin.ofNat 16 j))) 0 0
        ⊢ iprop(∃ f, ⌜(partM (Fin.ofNat 16 j)).view.read (Elt F) f = amx X W (par c (Fin.ofNat 16 j))⌝ ∗ at_ (F := F) c (partM (Fin.ofNat 16 j)) fullShare f) := Entails.refl _
    ihave Hp := hpay $$ Hpay
    icases Hp with ⟨%f, %hf, Hpts⟩
    iapply (wp_load 𝒱₀ (c : Thread nD τ) none Set.univ (m := ar) (r := (partR (Fin.ofNat 16 j)).toLoadRect) (S := (partM (Fin.ofNat 16 j)).view.set) (q := fullShare) (f := f)
      (by rw [partM_set])) $$ Hpts
    iintro Hpts
    have hv : joinV a (ar.view.readAt (Elt F) (partR (Fin.ofNat 16 j)).toLoadRect f) = maximumf a (amx X W (par c (Fin.ofNat 16 j))) := by
      unfold joinV; rw [← hf]; rfl
    rw [hv]
    iapply ih $$ [Hws Hds Hpts Hat HO]
    · isplitr; · iexact HR
      isplitl [Hws]; · iexact Hws
      isplitr [HO]
      · isplitl [Hpts Hat]
        · isplitl [Hpts]; · iexists f; iexact Hpts
          iexact Hat
        iexact Hds
      iexact HO
    iexact Hk

/-- The position before the wait for the departure of the copy to partner `j`. -/
def exPos (c : Dev nD) (r : ℕ) (j : Fin 16) : sProp 𝕄 := atPos (ER (F := F)) (cell c (.asn j)) r ∅ 0

/-- The copies to the partners from `j` on have left. -/
theorem op_exchSent (c : Dev nD) (K : P F) (Q : PUnit → sProp 𝕄) : ∀ n j, 1 ≤ j → j + n = 16 →
    iprop(recs (F := F) X W KN KS ∗ bigSep (Finset.Ico j 16) (fun i => exPos (F := F) c 0 (Fin.ofNat 16 i)) ∗ bigSep (Finset.Ico j 16) (fun i => exCred (F := F) c (Fin.ofNat 16 i))
        ∗ bigSep (Finset.Ico 1 j) (fun i => exPos (F := F) c 1 (Fin.ofNat 16 i)) ∗ bigSep (Finset.Ico 1 j) (fun i => at_ c am (shPiece (i - 1)) (amx X W c)) ∗ OW c 0)
      ⊢ iprop((bigSep (Finset.Ico 1 16) (fun i => exPos (F := F) c 1 (Fin.ofNat 16 i)) ∗ bigSep (Finset.Ico 1 16) (fun i => at_ c am (shPiece (i - 1)) (amx X W c)) ∗ OW c 0
          -∗ WP c K Q) -∗ WP c (exchSent ((List.range' j n).map (Fin.ofNat 16)) K) Q)
  | 0, j, _, h => by
    obtain rfl : j = 16 := h
    iintro ⟨-, -, -, H⟩ Hk
    iapply Hk; iexact H
  | n + 1, j, h1, h => by
    have hj : j < 16 := by omega
    have hne := ofNat_ne j h1 hj
    have hval : (Fin.ofNat 16 j : Fin 16).val = j := Nat.mod_eq_of_lt hj
    have ih := op_exchSent c K Q n (j + 1) (by omega) (by omega)
    rw [win_push h1, win_push h1] at ih
    rw [win_pop hj, win_pop hj]
    have hc : exCred (F := F) c (Fin.ofNat 16 j) = cred (tallyAt (cell c (.asn (Fin.ofNat 16 j))) 0 (amt (some (.asn (Fin.ofNat 16 j))))) := rfl
    have hq : ∀ r, exPos (F := F) c r (Fin.ofNat 16 j) = atPos (ER (F := F)) (cell c (.asn (Fin.ofNat 16 j))) r ∅ 0 := fun _ => rfl
    rw [hc, hq]
    rw [hq] at ih
    have hpay : pay X W c (some (.asn (Fin.ofNat 16 j))) 0 0 = at_ c am (shPiece (j - 1)) (amx X W c) := by
      show at_ c am (shPiece ((Fin.ofNat 16 j : Fin 16).val - 1)) (amx X W c) = _
      rw [hval]
    rw [← hpay] at ih
    iintro ⟨#HR, ⟨Hat, Hps⟩, ⟨Hc, Hcs⟩, Hqs, Hpc, HO⟩ Hk
    iapply (wait_one X W KN KS c (.asn (Fin.ofNat 16 j)) 0 0 0 (if_pos ⟨rfl, hne⟩) (by decide) (Nat.le_refl _)
      (fun K => (wpE_waitDma2_eq 𝒱₀ (c : Thread nD τ) none Set.univ K).trans (by rfl)) 0 (Above.zero _)
      (fun _ => exchSent ((List.range' (j + 1) n).map (Fin.ofNat 16)) K) Q) $$ [Hc HO Hat]
    · isplitr; · iexact HR
      isplitl [Hc]; · iexact Hc
      isplitl [HO]; · iexact HO
      iexact Hat
    iintro ⟨HO, Hat, -, Hpay⟩
    iapply ih $$ [Hps Hcs Hat Hqs Hpay Hpc HO]
    · isplitr; · iexact HR
      isplitl [Hps]; · iexact Hps
      isplitl [Hcs]; · iexact Hcs
      isplitl [Hat Hqs]
      · isplitl [Hat]; · iexact Hat
        iexact Hqs
      isplitl [Hpay Hpc]
      · isplitl [Hpay]; · iexact Hpay
        iexact Hpc
      iexact HO
    iexact Hk

/-- The shares of the device's own value join to the whole. -/
theorem am_join (c : Dev nD) : ∀ n, iprop(at_ (F := F) c am (shRem n) (amx X W c) ∗ bigSep (Finset.Ico 1 (n + 1)) (fun i => at_ c am (shPiece (i - 1)) (amx X W c)))
    ⊢ at_ (F := F) c am fullShare (amx X W c)
  | 0 => by
    iintro ⟨H, -⟩; iexact H
  | n + 1 => by
    rw [win_push (show 1 ≤ n + 1 by omega)]
    have hsh : iprop(at_ (F := F) c am (shPiece n) (amx X W c) ∗ at_ (F := F) c am (shRem (n + 1)) (amx X W c)) ⊢ at_ (F := F) c am (shRem n) (amx X W c) :=
      (pointsTo_share (PosShare.mem_left_op_right (shRem n))).2
    iintro ⟨H, ⟨Hp, Hps⟩⟩
    ihave H := hsh $$ [H Hp]
    · isplitl [Hp]; · iexact Hp
      iexact H
    iapply (am_join c n)
    isplitl [H]; · iexact H
    iexact Hps

/-- The largest absolute value of all devices, as the device finds it. -/
def amAll (c : Dev nD) : FVec F S8x128 .f32 := joinL X W c partners (amx X W c)
/-- The device's block of the result. -/
def outF (c : Dev nD) : FVec F S256x2048 .f32 := k0_pay1 (k0_pay163 (amAll X W c)) (outY X W c)

theorem zero2 : (![0, 0] : Fin 2 → Nat) = fun _ => 0 := funext fun a => by fin_cases a <;> rfl

/-- The output is quantised. -/
theorem op_quantOut (c : Dev nD) (Q : PUnit → sProp 𝕄) :
    (((c : Thread nD τ).loc cc0_stg2_0) ↦{fullShare} outY X W c : sProp 𝕄)
      ⊢ iprop(((((c : Thread nD τ).loc cc0_stg2_0) ↦{fullShare} outF X W c) -∗ WP c (.ret ⟨⟩) Q) -∗ WP c (quantOut om (amAll X W c)) Q) := by
  unfold quantOut
  have hr : om.view.readAt (Elt F) outR.toLoadRect (outY X W c) = outY X W c := Memref.readAt_unit_zero (Elt F) cc0_stg2_0 zero2 _ _
  have hw : (om.access outR).write (Elt F) (outY X W c) (outF X W c) Finset.univ = outF X W c :=
    Memref.write_access_unit_zero_univ (Elt F) cc0_stg2_0 zero2 _ _ _
  iintro H Hk
  iapply (wp_load 𝒱₀ (c : Thread nD τ) none Set.univ (m := om) (r := outR.toLoadRect) (S := Finset.univ) (q := fullShare) (f := outY X W c)
    (Finset.subset_univ _)) $$ H
  iintro H
  rw [hr]
  iapply (wp_load 𝒱₀ (c : Thread nD τ) none Set.univ (m := om) (r := outR.toLoadRect) (S := Finset.univ) (q := fullShare) (f := outY X W c)
    (Finset.subset_univ _)) $$ H
  iintro H
  iapply (wp_store 𝒱₀ (c : Thread nD τ) none Set.univ (m := om) (r := outR) (w := outF X W c) (Mk := Finset.univ) (S := Finset.univ) (f := outY X W c)
    (Finset.subset_univ _)) $$ H
  iintro H
  iapply Hk
  ihave H := (Entails.of_eq (congrArg (fun g => (((c : Thread nD τ).loc cc0_stg2_0) ↦{fullShare} g : sProp 𝕄)) hw)) $$ H
  iexact H

/-- What the exchange starts from, besides the lanes. -/
def ExIn (c : Dev nD) : sProp 𝕄 :=
  iprop((∃ f : (cc0_scratch8 : Ref sig .tc).ty.Contents (Elt F), ((c : Thread nD τ).loc cc0_scratch8) ↦{fullShare} f)
    ∗ bigSep (Finset.Ico 1 16) (fun i => exTok (F := F) c (Fin.ofNat 16 i)) ∗ bigSep (Finset.Ico 1 16) (fun i => exWait (F := F) c (Fin.ofNat 16 i))
    ∗ bigSep (Finset.Ico 1 16) (fun i => exPos (F := F) c 0 (Fin.ofNat 16 i)))
/-- What it leaves. -/
def ExOut (c : Dev nD) : sProp 𝕄 :=
  iprop((∃ f : (cc0_scratch8 : Ref sig .tc).ty.Contents (Elt F), ((c : Thread nD τ).loc cc0_scratch8) ↦{fullShare} f)
    ∗ bigSep (Finset.Ico 1 16) (fun i => exDone (F := F) c (Fin.ofNat 16 i)) ∗ bigSep (Finset.Ico 1 16) (fun i => exPos (F := F) c 1 (Fin.ofNat 16 i)))

theorem oweA_done (c : Dev nD) : oweA c 16 = 0 := by
  unfold oweA; rw [show Finset.Ico 16 16 = ∅ by decide, Finset.sum_empty]

/-- From the device's own value to the end. -/
theorem op_exchange (c : Dev nD) (Q : PUnit → sProp 𝕄) :
    iprop(recs (F := F) X W KN KS ∗ heard (Entered (F := F)) Finset.univ ∗ ExIn c ∗ SendSt c 0 15 12 ∗ SendSt c 1 15 12 ∗ SendSt c 2 15 12 ∗ SendSt c 3 15 12
        ∗ OutSt X W c 4 ∗ OW c (oweA c 1))
      ⊢ iprop((ExOut c ∗ SendSt c 0 15 15 ∗ SendSt c 1 15 15 ∗ SendSt c 2 15 15 ∗ SendSt c 3 15 15
          ∗ (((c : Thread nD τ).loc cc0_stg2_0) ↦{fullShare} outF X W c) ∗ OW c 0 -∗ WP c (.ret ⟨⟩) Q)
        -∗ WP c (exchange om c (amx X W c)) Q) := by
  unfold exchange putAm ExIn ExOut
  have hr : am.view.readAt (Elt F) amR.toLoadRect (amx X W c) = amx X W c := Memref.readAt_unit_zero (Elt F) cc0_scratch8 zero2 _ _
  have hw : ∀ f, (am.access amR).write (Elt F) f (amx X W c) Finset.univ = amx X W c := fun f =>
    Memref.write_access_unit_zero_univ (Elt F) cc0_scratch8 zero2 _ _ _
  have hset : am.view.set = Finset.univ := by rw [Memref.view_whole, View.set_whole]
  have hpt : (((c : Thread nD τ).loc cc0_scratch8) ↦{fullShare} amx X W c : sProp 𝕄) = at_ (F := F) c am (shRem (1 - 1)) (amx X W c) := by
    show _ = (am.view.loc (c : Thread nD τ) ↦[am.view.set]{fullShare} amx X W c : sProp 𝕄)
    rw [hset]
  have hfull : (at_ (F := F) c am fullShare (amx X W c) : sProp 𝕄) = (((c : Thread nD τ).loc cc0_scratch8) ↦{fullShare} amx X W c : sProp 𝕄) := hpt.symm
  iintro ⟨#HR, #Hh, ⟨⟨%f, Ham⟩, Htok, Hwait, Hpos⟩, H0, H1, H2, H3, Hout, HO⟩ Hk
  iapply (wp_load 𝒱₀ (c : Thread nD τ) none Set.univ (m := am) (r := amR.toLoadRect) (S := Finset.univ) (q := fullShare) (f := f)
    (Finset.subset_univ _)) $$ Ham
  iintro Ham
  iapply (wp_store 𝒱₀ (c : Thread nD τ) none Set.univ (m := am) (r := amR) (w := amx X W c) (Mk := Finset.univ) (S := Finset.univ) (f := f)
    (Finset.subset_univ _)) $$ Ham
  iintro Ham
  ihave Ham := (Entails.of_eq ((congrArg (fun g => (((c : Thread nD τ).loc cc0_scratch8) ↦{fullShare} g : sProp 𝕄)) (hw f)).trans hpt)) $$ Ham
  have hS : StartSt (F := F) X W c 1 = iprop(at_ c am (shRem (1 - 1)) (amx X W c) ∗ bigSep (Finset.Ico 1 16) (fun i => exTok c (Fin.ofNat 16 i))
    ∗ bigSep (Finset.Ico 1 1) (fun i => exCred c (Fin.ofNat 16 i)) ∗ OW c (oweA c 1)) := rfl
  have hS' : StartSt (F := F) X W c 16 = iprop(at_ c am (shRem 15) (amx X W c) ∗ bigSep (Finset.Ico 16 16) (fun i => exTok c (Fin.ofNat 16 i))
    ∗ bigSep (Finset.Ico 1 16) (fun i => exCred c (Fin.ofNat 16 i)) ∗ OW c 0) := by rw [← oweA_done c]; rfl
  have hst := op_exchStart X W KN KS c (drain laneSlots
    (.op (.load am amR.toLoadRect (View.loadsAt_vmem h_S8x128)) fun (v : Vec F S8x128 .f32) =>
      exchJoin partners v fun b => exchSent partners (quantOut om b))) Q 15 1 (by omega) (by omega)
  rw [hS, hS'] at hst
  iapply hst $$ [Ham Htok HO]
  · isplitr; · iexact HR
    isplitr; · iexact Hh
    isplitl [Ham]; · iexact Ham
    isplitl [Htok]; · iexact Htok
    isplitr
    · rw [Finset.Ico_self, bigSep_empty]; iempintro
    iexact HO
  iintro ⟨Ham, -, Hcs, HO⟩
  iapply (op_drain X W KN KS c 0 _ _ Q) $$ [H0 HO]
  · isplitr; · iexact HR
    isplitl [H0]; · iexact H0
    iexact HO
  iintro ⟨H0, HO⟩
  iapply (op_drain X W KN KS c 1 _ _ Q) $$ [H1 HO]
  · isplitr; · iexact HR
    isplitl [H1]; · iexact H1
    iexact HO
  iintro ⟨H1, HO⟩
  iapply (op_drain X W KN KS c 2 _ _ Q) $$ [H2 HO]
  · isplitr; · iexact HR
    isplitl [H2]; · iexact H2
    iexact HO
  iintro ⟨H2, HO⟩
  iapply (op_drain X W KN KS c 3 [] _ Q) $$ [H3 HO]
  · isplitr; · iexact HR
    isplitl [H3]; · iexact H3
    iexact HO
  iintro ⟨H3, HO⟩
  iapply (wp_load 𝒱₀ (c : Thread nD τ) none Set.univ (m := am) (r := amR.toLoadRect) (S := am.view.set) (q := shRem 15) (f := amx X W c)
    (by rw [hset]; exact Finset.subset_univ _)) $$ Ham
  iintro Ham
  rw [hr]
  iapply (op_exchJoin X W KN KS c (fun b => exchSent partners (quantOut om b)) Q 15 1 (amx X W c) (by omega) (by omega)) $$ [Hwait HO]
  · isplitr; · iexact HR
    isplitl [Hwait]; · iexact Hwait
    isplitr
    · rw [Finset.Ico_self, bigSep_empty]; iempintro
    iexact HO
  iintro ⟨Hdone, HO⟩
  iapply (op_exchSent X W KN KS c (quantOut om (amAll X W c)) Q 15 1 (by omega) (by omega)) $$ [Hpos Hcs HO]
  · isplitr; · iexact HR
    isplitl [Hpos]; · iexact Hpos
    isplitl [Hcs]; · iexact Hcs
    isplitr
    · rw [Finset.Ico_self, bigSep_empty]; iempintro
    isplitr
    · rw [Finset.Ico_self, bigSep_empty]; iempintro
    iexact HO
  iintro ⟨Hpos, Hpc, HO⟩
  ihave Ham := (am_join X W c 15) $$ [Ham Hpc]
  · isplitl [Ham]; · iexact Ham
    iexact Hpc
  ihave Ham := (Entails.of_eq hfull) $$ Ham
  ihave Hout := (outSt_full X W c) $$ Hout
  iapply (op_quantOut X W c Q) $$ Hout
  iintro Hout
  iapply Hk
  isplitl [Ham Hdone Hpos]
  · isplitl [Ham]; · iexists _; iexact Ham
    isplitl [Hdone]; · iexact Hdone
    iexact Hpos
  isplitl [H0]; · iexact H0
  isplitl [H1]; · iexact H1
  isplitl [H2]; · iexact H2
  isplitl [H3]; · iexact H3
  isplitl [Hout]; · iexact Hout
  iexact HO

end Cert.KernelIdeal.Ring

end
-- ==== Proof.Deal.lean ====
/-
# Regrouping what a device starts and ends with

The launch deals by cell and by slot; the lanes count by message. Here are the regroupings between the two, and the
splitting of the scratch buffers into the slots that messages travel through.
-/
module

public import proofs.«01_k».proof.Proof.Exchange
public import Idealize.ShloMosaic.Lib.Ring

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### Numbers -/

section Numbers
variable {M : Type} [URA M]

/-- Over a box of indices, row by row. -/
theorem bigSep_box {I J : Type} [DecidableEq I] [DecidableEq J] (s : Finset I) (t : Finset J) (Φ : I × J → sProp M) :
    bigSep (s ×ˢ t) Φ = bigSep s fun i => bigSep t fun j => Φ (i, j) := by
  induction s using Finset.induction_on with
  | empty => rw [Finset.empty_product, bigSep_empty, bigSep_empty]
  | insert a s ha ih =>
    have hsplit : insert a s ×ˢ t = t.image (Prod.mk a) ∪ s ×ˢ t := by
      ext ⟨x, y⟩
      simp only [Finset.mem_product, Finset.mem_insert, Finset.mem_union, Finset.mem_image, Prod.mk.injEq]
      constructor
      · rintro ⟨rfl | hx, hy⟩
        · exact Or.inl ⟨y, hy, rfl, rfl⟩
        · exact Or.inr ⟨hx, hy⟩
      · rintro (⟨z, hz, rfl, rfl⟩ | ⟨hx, hy⟩)
        · exact ⟨Or.inl rfl, hz⟩
        · exact ⟨Or.inr hx, hy⟩
    rw [hsplit, bigSep_union, bigSep_insert ha, ih, bigSep_image_of_injOn (fun x _ y _ h => congrArg Prod.snd h)]
    rw [Finset.disjoint_left]
    intro x hx hx'
    obtain ⟨y, -, rfl⟩ := Finset.mem_image.mp hx
    exact ha (Finset.mem_product.mp hx').1

/-- Three consecutive messages from a multiple of three on are one per slot. -/
theorem deal_slots (n : ℕ) (Φ : ℕ → sProp M) (Ψ : Fin 3 → sProp M) (h : ∀ k : Fin 3, Φ (3 * n + k.val) = Ψ k) :
    bigSep (Finset.Ico (3 * n) (3 * n + 3)) Φ = bigSep Finset.univ Ψ := by
  have himg : Finset.Ico (3 * n) (3 * n + 3) = (Finset.univ : Finset (Fin 3)).image (fun k => 3 * n + k.val) := by
    ext x
    simp only [Finset.mem_Ico, Finset.mem_image, Finset.mem_univ, true_and]
    constructor
    · intro hx; exact ⟨⟨x - 3 * n, by omega⟩, Nat.add_sub_cancel' hx.1⟩
    · rintro ⟨k, rfl⟩; have := k.isLt; omega
  rw [himg, bigSep_image_of_injOn (fun a _ b _ hab => Fin.ext (Nat.add_left_cancel (show 3 * n + a.val = 3 * n + b.val from hab)))]
  exact bigSep_congr fun k _ => h k

/-- Fifteen messages are five rounds of three slots. -/
theorem deal_rounds (Φ : Fin 3 → ℕ → sProp M) :
    (bigSep Finset.univ fun k => bigSep (Finset.range 5) (Φ k)) = bigSep (Finset.Ico 0 15) fun i => Φ (slot i) (i / 3) := by
  have himg : (Finset.univ : Finset (Fin 3)) ×ˢ Finset.range 5 = (Finset.Ico 0 15).image (fun i => (slot i, i / 3)) := by decide
  have hinj : Set.InjOn (fun i => (slot i, i / 3)) (Finset.Ico 0 15 : Finset ℕ) := fun a _ b _ hab => by
    have h1 := congrArg (fun x : Fin 3 × ℕ => x.1.val) hab
    have h2 := congrArg (fun x : Fin 3 × ℕ => x.2) hab
    simp only [slot] at h1 h2
    omega
  have h := bigSep_box (Finset.univ : Finset (Fin 3)) (Finset.range 5) (fun x => Φ x.1 x.2)
  rw [← h, himg, bigSep_image_of_injOn hinj]

/-- All sixteen partners are the device itself and partners 1 to 15. -/
theorem deal_partners (Φ : Fin 16 → sProp M) :
    bigSep Finset.univ Φ = iprop(Φ 0 ∗ bigSep (Finset.Ico 1 16) fun i => Φ (Fin.ofNat 16 i)) := by
  have himg : (Finset.univ : Finset (Fin 16)) = (Finset.Ico 0 16).image (Fin.ofNat 16) := by decide
  have hinj : Set.InjOn (Fin.ofNat 16) (Finset.Ico 0 16 : Finset ℕ) := fun a ha b hb hab => by
    have h1 := Finset.mem_Ico.mp (Finset.mem_coe.mp ha)
    have h2 := Finset.mem_Ico.mp (Finset.mem_coe.mp hb)
    have h := congrArg Fin.val hab
    simp only [Fin.ofNat] at h
    omega
  rw [himg, bigSep_image_of_injOn hinj, show Finset.Ico 0 16 = insert 0 (Finset.Ico 1 16) by decide, bigSep_insert (by decide)]; rfl

theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

/-- The kernel's semaphores, kind by kind. -/
def kindE : ((Fin 4 × Fin 3) ⊕ (Fin 4 × Fin 3)) ⊕ (Fin 4 ⊕ (Fin 16 ⊕ Fin 16)) ≃ CK where
  toFun
    | .inl (.inl x) => .snd x.1 x.2
    | .inl (.inr x) => .rcv x.1 x.2
    | .inr (.inl ℓ) => .crd ℓ
    | .inr (.inr (.inl j)) => .asn j
    | .inr (.inr (.inr j)) => .arc j
  invFun
    | .snd ℓ k => .inl (.inl (ℓ, k))
    | .rcv ℓ k => .inl (.inr (ℓ, k))
    | .crd ℓ => .inr (.inl ℓ)
    | .asn j => .inr (.inr (.inl j))
    | .arc j => .inr (.inr (.inr j))
  left_inv x := by rcases x with (_ | _) | (_ | _ | _) <;> rfl
  right_inv k := by cases k <;> rfl

theorem bigSep_kinds (Φ : CK → sProp M) :
    bigSep Finset.univ Φ = iprop(((bigSep Finset.univ fun ℓ : Fin 4 => bigSep Finset.univ fun k : Fin 3 => Φ (.snd ℓ k))
        ∗ (bigSep Finset.univ fun ℓ : Fin 4 => bigSep Finset.univ fun k : Fin 3 => Φ (.rcv ℓ k)))
      ∗ (bigSep Finset.univ fun ℓ : Fin 4 => Φ (.crd ℓ)) ∗ (bigSep Finset.univ fun j => Φ (.asn j)) ∗ bigSep Finset.univ fun j => Φ (.arc j)) := by
  rw [bigSep_univ_equiv kindE, bigSep_univ_sum, bigSep_univ_sum, bigSep_univ_sum, bigSep_univ_sum, bigSep_univ_prod, bigSep_univ_prod]
  rfl

theorem bigSep_opt {K : Type} [Fintype K] (Φ : Option K → sProp M) :
    bigSep Finset.univ Φ = iprop(Φ none ∗ bigSep Finset.univ fun k => Φ (some k)) := by
  classical
  rw [bigSep_univ_equiv ((Equiv.sumComm PUnit.{1} K).trans (Equiv.optionEquivSumPUnit K).symm), bigSep_univ_sum,
    bigSep_univ_of_subsingleton PUnit.unit]
  rfl

theorem bigSep_slots (Φ : Fin 4 × Fin 3 ⊕ Fin 16 → sProp M) :
    bigSep Finset.univ Φ = iprop((bigSep Finset.univ fun ℓ : Fin 4 => bigSep Finset.univ fun k : Fin 3 => Φ (.inl (ℓ, k)))
      ∗ bigSep Finset.univ fun j => Φ (.inr j)) := by
  rw [bigSep_univ_sum, bigSep_univ_prod]; rfl

end Numbers

/-! ### Buffers -/

/-- Places that cover a memref's shape cover the memref. -/
theorem setOn_cover {B : Type} [Fintype B] [DecidableEq B] {s : Shape} {e : EltTy} (v : View sig .tc .vmem s e) (S : B → Finset s.Idx) (h : Finset.univ.biUnion S = Finset.univ) :
    (Finset.univ.biUnion fun b => v.setOn (S b)) = v.set := by
  rw [← View.setOn_univ, ← h]
  ext i
  unfold View.setOn
  rw [Finset.mem_biUnion, Finset.mem_map]
  constructor
  · rintro ⟨k, -, hk⟩
    obtain ⟨a, ha, rfl⟩ := Finset.mem_map.mp hk
    exact ⟨a, Finset.mem_biUnion.mpr ⟨k, Finset.mem_univ k, ha⟩, rfl⟩
  · rintro ⟨a, ha, rfl⟩
    obtain ⟨k, -, hk⟩ := Finset.mem_biUnion.mp ha
    exact ⟨k, Finset.mem_univ k, Finset.mem_map_of_mem _ hk⟩
theorem slotM_disjoint (M : Memref sig .tc .vmem S3x256x512 .bf16) (k k' : Fin 3) (h : k ≠ k') : Disjoint (slotM M k).view.set (slotM M k').view.set := by
  rw [slotM_set, slotM_set]
  exact (Finset.disjoint_map _).mpr (Ring.lead_disjoint (s := S3x256x512) (0 : Fin 3) 1 (fun k : Fin 3 => ![k.val, 0, 0]) S1x256x512.size slot_inb
    (fun b => by simp) (by rfl) k k' h)
theorem slotM_cover (M : Memref sig .tc .vmem S3x256x512 .bf16) : (Finset.univ.biUnion fun k => (slotM M k).view.set) = M.view.set := by
  have h := Ring.lead_cover (s := S3x256x512) (0 : Fin 3) 1 (fun k : Fin 3 => ![k.val, 0, 0]) S1x256x512.size slot_inb
    (fun b => by simp) (fun b a ha => by fin_cases a <;> simp_all) (by rfl) (fun a ha => by fin_cases a <;> simp_all [S1x256x512, S3x256x512]) (by rfl)
  rw [← setOn_cover M.view _ h]; exact Finset.biUnion_congr rfl fun k _ => slotM_set M k
theorem partM_disjoint (j j' : Fin 16) (h : j ≠ j') : Disjoint (partM j).view.set (partM j').view.set := by
  rw [partM_set, partM_set]
  exact (Finset.disjoint_map _).mpr (Ring.lead_disjoint (s := S16x8x128) (0 : Fin 3) 1 (fun k : Fin 16 => ![k.val, 0, 0]) S1x8x128.size part_inb
    (fun b => by simp) (by rfl) j j' h)
theorem partM_cover : (Finset.univ.biUnion fun k => (partM k).view.set) = ar.view.set := by
  have h := Ring.lead_cover (s := S16x8x128) (0 : Fin 3) 1 (fun k : Fin 16 => ![k.val, 0, 0]) S1x8x128.size part_inb
    (fun b => by simp) (fun b a ha => by fin_cases a <;> simp_all) (by rfl) (fun a ha => by fin_cases a <;> simp_all [S1x8x128, S16x8x128]) (by rfl)
  rw [← setOn_cover ar.view _ h]; exact Finset.biUnion_congr rfl fun k _ => partM_set k

/-- A whole memref on device `c`, with any contents. -/
def buf {s : Shape} {e : EltTy} (c : Dev nD) (M : Memref sig .tc .vmem s e) : sProp 𝕄 :=
  iprop(∃ f : Buf (Elt F) (M.view.loc (c : Thread nD τ)), M.view.loc (c : Thread nD τ) ↦{fullShare} f)

theorem at_any {s : Shape} {e : EltTy} (c : Dev nD) (M : Memref sig .tc .vmem s e) (f : Buf (Elt F) (M.view.loc (c : Thread nD τ))) :
    (at_ (F := F) c M fullShare f : sProp 𝕄) ⊢ iprop(∃ f, at_ (F := F) c M fullShare f) := by
  iintro H; iexists f; iexact H
theorem slots_open (c : Dev nD) (M : Memref sig .tc .vmem S3x256x512 .bf16) (hM : M.view.set = Finset.univ) :
    buf (F := F) c M ⊢ bigSep Finset.univ fun k => any_ (F := F) c (slotM M k) := by
  unfold buf any_
  iintro ⟨%f, H⟩
  ihave H := (Entails.of_eq (Ring.pointsTo_blocks (ℓ := M.view.loc (c : Thread nD τ)) (fun k => (slotM M k).view.set) (slotM_disjoint M)
    ((slotM_cover M).trans hM) f)) $$ H
  have h : (bigSep Finset.univ fun k => M.view.loc (c : Thread nD τ) ↦[(slotM M k).view.set]{fullShare} f)
      ⊢ (bigSep Finset.univ fun k => iprop(∃ f, at_ (F := F) c (slotM M k) fullShare f) : sProp 𝕄) :=
    bigSep_mono fun k _ => at_any c (slotM M k) f
  iapply h $$ H
theorem slots_close (c : Dev nD) (M : Memref sig .tc .vmem S3x256x512 .bf16) (hM : M.view.set = Finset.univ) :
    (bigSep Finset.univ fun k => any_ (F := F) c (slotM M k)) ⊢ buf (F := F) c M := by
  unfold buf any_
  have f₀ : Buf (Elt F) (M.view.loc (c : Thread nD τ)) := Classical.arbitrary _
  exact Ring.pointsTo_blocks_join_exists (ℓ := M.view.loc (c : Thread nD τ)) (fun k => (slotM M k).view.set) (slotM_disjoint M)
    ((slotM_cover M).trans hM) f₀
theorem parts_open (c : Dev nD) : buf (F := F) c ar ⊢ bigSep Finset.univ fun j => any_ (F := F) c (partM j) := by
  unfold buf any_
  iintro ⟨%f, H⟩
  ihave H := (Entails.of_eq (Ring.pointsTo_blocks (ℓ := ar.view.loc (c : Thread nD τ)) (fun k => (partM k).view.set) partM_disjoint
    (partM_cover.trans (View.set_whole _)) f)) $$ H
  have h : (bigSep Finset.univ fun k => ar.view.loc (c : Thread nD τ) ↦[(partM k).view.set]{fullShare} f)
      ⊢ (bigSep Finset.univ fun k => iprop(∃ f, at_ (F := F) c (partM k) fullShare f) : sProp 𝕄) :=
    bigSep_mono fun k _ => at_any c (partM k) f
  iapply h $$ H
theorem parts_close (c : Dev nD) : (bigSep Finset.univ fun j => any_ (F := F) c (partM j)) ⊢ buf (F := F) c ar := by
  unfold buf any_
  have f₀ : Buf (Elt F) (ar.view.loc (c : Thread nD τ)) := Classical.arbitrary _
  exact Ring.pointsTo_blocks_join_exists (ℓ := ar.view.loc (c : Thread nD τ)) (fun k => (partM k).view.set) partM_disjoint
    (partM_cover.trans (View.set_whole _)) f₀

theorem sb_set (ℓ : Fin 4) : (sb ℓ).view.set = Finset.univ := by fin_cases ℓ <;> exact View.set_whole _
theorem rb_set (ℓ : Fin 4) : (rb ℓ).view.set = Finset.univ := by fin_cases ℓ <;> exact View.set_whole _

/-- The scratch buffers. -/
def scratch (c : Dev nD) : sProp 𝕄 :=
  iprop((bigSep Finset.univ fun ℓ => buf (F := F) c (sb ℓ)) ∗ (bigSep Finset.univ fun ℓ => buf (F := F) c (rb ℓ)) ∗ buf (F := F) c am ∗ buf (F := F) c ar)

end Cert.KernelIdeal.Ring

end
-- ==== Proof.Body.lean ====
/-
# The whole body on one device

From what the launch deals a device to what the device hands back: it opens its receive buffers, shakes hands with its two
neighbours, runs the rounds and the exchange, and closes every cell.
-/
module

public import proofs.«01_k».proof.Proof.Deal

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release heard heard_elim heard_single)

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))
variable (KN : Dev nD × Option CK → ℕ) (KS : RK → ℕ)

/-! ### What a device starts with -/

/-- The payments lane `ℓ` makes and the arrivals it may wait for. -/
def LaneTok (c : Dev nD) (ℓ : Fin 4) : sProp 𝕄 :=
  iprop(bigSep (Finset.Ico 0 15) (sendTok (F := F) c ℓ) ∗ bigSep (Finset.Ico 0 12) (tokQ (F := F) c ℓ)
    ∗ bigSep (Finset.Ico 0 15) (credR (F := F) c ℓ) ∗ bigSep (Finset.Ico 0 12) (credM (F := F) c ℓ))
/-- Those of the exchange. -/
def PartTok (c : Dev nD) : sProp 𝕄 :=
  iprop(bigSep (Finset.Ico 1 16) (fun i => exTok (F := F) c (Fin.ofNat 16 i)) ∗ writeTok (EK (F := F)) (akey c 0) 1
    ∗ bigSep (Finset.Ico 1 16) (fun i => cred (tallyAt (cell c (.arc (Fin.ofNat 16 i))) 0 NA)))
/-- Those of the handshake. -/
def BarTok (c : Dev nD) : sProp 𝕄 :=
  iprop(dutyTok (ER (F := F)) (barCell (lft c)) 0 1 ∗ dutyTok (ER (F := F)) (barCell (rgt c)) 0 0 ∗ cred (tallyAt (barCell c) 0 2))
/-- The device's cells at round `r` each. -/
def Poss (c : Dev nD) (r : Option CK → ℕ) : sProp 𝕄 := bigSep Finset.univ fun k : Option CK => atPos (ER (F := F)) ((c : Thread nD τ), csem k) (r k) ∅ 0
/-- The readers of the device's slots after `n` releases. -/
def Rdrs (c : Dev nD) (n : ℕ) : sProp 𝕄 := bigSep Finset.univ fun x : Fin 4 × Fin 3 ⊕ Fin 16 => readerAt (EK (F := F)) (c, x) n
/-- All a device owes at its start. -/
def owe0 (c : Dev nD) : CellTallies nD τ sig ℕ := oweAll c 0 0 0 0 + tallyAt (barCell (rgt c)) 0 1 + tallyAt (barCell (lft c)) 0 1
/-- Its tokens. -/
def Toks (c : Dev nD) : sProp 𝕄 := iprop((bigSep Finset.univ fun ℓ => LaneTok (F := F) c ℓ) ∗ PartTok (F := F) c ∗ BarTok (F := F) c)

/-! ### Opening the receive buffers -/

theorem keyPlace_false (x : RK) : iprop(keyPlace (F := F) x ∗ keyPlace x) ⊢ (False : sProp 𝕄) := by
  obtain ⟨c, ⟨ℓ, k⟩ | j⟩ := x
  · exact any_any_false c (slotM (rb ℓ) k) (slotM_nonempty _ _)
  · refine any_any_false c (partM j) ?_
    exact ⟨_, View.emb_mem_set _ (fun a => ⟨0, by revert a; decide⟩ : S8x128.Idx)⟩

/-- A device puts its receive slots in their invariants. -/
theorem enter (c : Dev nD) :
    iprop(recs (F := F) X W KN KS ∗ Rdrs c 0 ∗ (bigSep Finset.univ fun ℓ => buf (F := F) c (rb ℓ)) ∗ buf (F := F) c ar)
      ⊢ (|={Set.univ}=> iprop(Rdrs c 1 ∗ Entered c) : sProp 𝕄) := by
  have hone : ∀ x : Fin 4 × Fin 3 ⊕ Fin 16, iprop(recs (F := F) X W KN KS ∗ readerAt (EK (F := F)) (c, x) 0 ∗ keyPlace (c, x))
      ⊢ (|={Set.univ}=> iprop(readerAt (EK (F := F)) (c, x) 1 ∗ released (EK (F := F)) (c, x) 1) : sProp 𝕄) := fun x =>
    (sep_mono_left (recs_slot X W KN KS (c, x))).trans (slot_release (E := EK (F := F)) (k := (c, x)) (S := keyPlace (c, x)) (Set.mem_univ _) (keyPlace_false _) 0)
  have hbuf : iprop((bigSep Finset.univ fun ℓ => buf (F := F) c (rb ℓ)) ∗ buf (F := F) c ar)
      ⊢ (bigSep Finset.univ fun x : Fin 4 × Fin 3 ⊕ Fin 16 => keyPlace (F := F) (c, x)) := by
    rw [bigSep_slots]
    exact BI.sep_mono (bigSep_mono fun ℓ _ => slots_open c (rb ℓ) (rb_set ℓ)) (parts_open c)
  have hall : iprop(recs (F := F) X W KN KS ∗ bigSep Finset.univ fun x : Fin 4 × Fin 3 ⊕ Fin 16 => iprop(readerAt (EK (F := F)) (c, x) 0 ∗ keyPlace (c, x)))
      ⊢ (|={Set.univ}=> bigSep Finset.univ fun x : Fin 4 × Fin 3 ⊕ Fin 16 => iprop(readerAt (EK (F := F)) (c, x) 1 ∗ released (EK (F := F)) (c, x) 1) : sProp 𝕄) :=
    (bigSep_with_persistent fun x _ => hone x).trans (bigSep_fupd _ _)
  have hent : (bigSep Finset.univ fun x : Fin 4 × Fin 3 ⊕ Fin 16 => released (EK (F := F)) (c, x) 1) = Entered (F := F) c := by
    rw [bigSep_univ_sum]; rfl
  rw [bigSep_sep', bigSep_sep', hent] at hall
  unfold Rdrs
  iintro ⟨#HR, Hr, Hb⟩
  ihave Hp := hbuf $$ Hb
  imod hall $$ [Hr Hp] with ⟨H1, H2⟩
  · isplitr; · iexact HR
    isplitl [Hr]; · iexact Hr
    iexact Hp
  imodintro
  isplitl [H1]; · iexact H1
  iexact H2

/-! ### The handshake -/

theorem op_handshake (c : Dev nD) (K : P F) (Q : PUnit → sProp 𝕄) :
    iprop(recs (F := F) X W KN KS ∗ Entered c ∗ BarTok c ∗ atPos (ER (F := F)) (barCell c) 0 ∅ 0 ∗ OW c (owe0 c))
      ⊢ iprop((Nbrs c ∗ atPos (ER (F := F)) (barCell c) 1 ∅ 0 ∗ OW c (oweAll c 0 0 0 0) -∗ WP c K Q) -∗ WP c (handshake c K) Q) := by
  have hbar : ∀ d : Dev nD, barCell d = ((d : Thread nD τ), SemLoc.reg bar.sem) := fun d => rfl
  have hD : ∀ d : Dev nD, (Rd (F := F) X W).duties ((d : Thread nD τ), SemLoc.reg bar.sem) 0 = {0, 1} := fun d => Rd_duties X W d none 0
  have hP : ∀ (d : Dev nD) (n : ℕ), (Rd (F := F) X W).payload ((d : Thread nD τ), SemLoc.reg bar.sem) 0 n = Entered (if n = 0 then lft d else rgt d) :=
    fun d n => Rd_payload X W d none 0 n
  have hE : (Rd (F := F) X W).expect ((c : Thread nD τ), SemLoc.reg bar.sem) 0 = 2 := Rd_expect X W c none 0
  have hl : ∀ d, rgt (lft d) = d := by decide +kernel
  have hr : ∀ d, lft (rgt d) = d := by decide +kernel
  have hA : Above 1 (oweAll c 0 0 0 0) := by
    unfold oweAll
    exact ((((above_oweA c 1 1 (by decide)).add (above_laneOwe c 0 0 1 (by decide) (fun _ => by decide))).add (above_laneOwe c 1 0 1 (by decide) (fun _ => by decide))).add
      (above_laneOwe c 2 0 1 (by decide) (fun _ => by decide))).add (above_laneOwe c 3 0 1 (by decide) (fun _ => by decide))
  unfold handshake BarTok OW
  rw [dev1_eq, dev2_eq, hbar, hbar, hbar]
  iintro ⟨#HR, #HE, ⟨Htl, Htr, Hc⟩, Hat, ⟨%Ws, HO⟩⟩ Hk
  ihave #Hlev := (recs_lev X W KN KS) $$ HR
  ihave #HIl := (recs_cell X W KN KS (lft c) none) $$ HR
  ihave #HIr := (recs_cell X W KN KS (rgt c) none) $$ HR
  ihave #HI := (recs_cell X W KN KS c none) $$ HR
  ihave #H0l := (recs_reached X W KN KS (lft c) none) $$ HR
  ihave #H0r := (recs_reached X W KN KS (rgt c) none) $$ HR
  iapply (Rounds.wp_signal 𝒱₀ ER (Rd X W) (c : Thread nD τ) none (dst := (lft c : Thread nD τ)) (sem := bar.sem) (κ := KN (lft c, none))
      (r := 0) (d := 1) (by rw [hD]; decide)
      ((Rd_amount X W (lft c) none 0 1).trans (show 1 = (1#32 : BitVec 32).toNat by decide)) 0 (O₀ := owe0 c) (oweAll c 0 0 0 0 + tallyAt (barCell (rgt c)) 0 1) rfl) $$ [HO Htl]
  · isplitr; · iexact HIl
    isplitl [HO]; · iexact HO
    isplitl [Htl]; · iexact Htl
    isplitr
    · rw [hP, if_neg (by decide), hl]; iexact HE
    iexact H0l
  iintro HO
  iapply (Rounds.wp_signal 𝒱₀ ER (Rd X W) (c : Thread nD τ) none (dst := (rgt c : Thread nD τ)) (sem := bar.sem) (κ := KN (rgt c, none))
      (r := 0) (d := 0) (by rw [hD]; decide)
      ((Rd_amount X W (rgt c) none 0 0).trans (show 1 = (1#32 : BitVec 32).toNat by decide)) 0 (O₀ := oweAll c 0 0 0 0 + tallyAt (barCell (rgt c)) 0 1) (oweAll c 0 0 0 0) rfl) $$ [HO Htr]
  · isplitr; · iexact HIr
    isplitl [HO]; · iexact HO
    isplitl [Htr]; · iexact Htr
    isplitr
    · rw [hP, if_pos rfl, hr]; iexact HE
    iexact H0r
  iintro HO
  iapply (Rounds.wp_wait_rest_token 𝒱₀ ER (Rd X W) (c : Thread nD τ) none (κ := KN (c, none)) (sm := SemLoc.reg bar.sem)
      (wpE_semWait_eq 𝒱₀ (c : Thread nD τ) none Set.univ) (Set.mem_univ _) 0 (O := oweAll c 0 0 0 0) (W := Ws) (R := 0) (m := 0) (T := ∅)
      (by rw [hE]; decide)) $$ [Hc HO Hat]
  · isplitr; · iexact HI
    isplitl [Hc]; · iexact Hc
    isplitl [HO]; · iexact HO
    isplitr; · iapply (mayWait_of_above c none 0 1 (by decide) (Nat.le_refl _) _ hA); iexact Hlev
    iexact Hat
  iintro ⟨HO, Hat, -, Hpay⟩
  have hrest : bigSep ((Rd (F := F) X W).duties ((c : Thread nD τ), SemLoc.reg bar.sem) 0 \ ∅) (fun d => (Rd (F := F) X W).payload ((c : Thread nD τ), SemLoc.reg bar.sem) 0 d)
      = iprop(Entered (F := F) (lft c) ∗ Entered (rgt c)) := by
    rw [Finset.sdiff_empty, hD, bigSep_insert (by decide), bigSep_singleton, hP, hP]; rfl
  ihave Hp := (Entails.of_eq hrest) $$ Hpay
  icases Hp with ⟨#Hel, #Her⟩
  iapply Hk
  isplitr
  · unfold Nbrs
    isplitr; · iexact HE
    isplitr; · iexact Her
    iexact Hel
  isplitl [Hat]; · iexact Hat
  iexists _; iexact HO

/-! ### A lane's start and end -/

theorem lane_start (c : Dev nD) (ℓ : Fin 4) :
    iprop(recs (F := F) X W KN KS ∗ Entered c ∗ (bigSep Finset.univ fun k : Fin 3 => atPos (ER (F := F)) (cell c (.snd ℓ k)) 0 ∅ 0)
        ∗ (bigSep Finset.univ fun k : Fin 3 => atPos (ER (F := F)) (cell c (.rcv ℓ k)) 0 ∅ 0) ∗ atPos (ER (F := F)) (cell c (.crd ℓ)) 0 ∅ 0
        ∗ (bigSep Finset.univ fun k : Fin 3 => readerAt (EK (F := F)) (rkey c ℓ k) 1) ∗ LaneTok c ℓ ∗ buf c (sb ℓ))
      ⊢ LaneSt c ℓ 0 := by
  have hslot : ∀ k : Fin 3, slot (3 * 0 + k.val) = k := by decide
  have hdiv : ∀ k : Fin 3, (3 * 0 + k.val) / 3 = 0 := by decide
  have eS : bigSep (Finset.Ico (3 * 0) (3 * 0 + 3)) (posS (F := F) c ℓ)
      = bigSep Finset.univ fun k : Fin 3 => iprop(atPos (ER (F := F)) (cell c (.snd ℓ k)) 0 ∅ 0 ∗ reached (ER (F := F)) (cell c (.snd ℓ k)) 0) :=
    deal_slots 0 _ _ fun k => by unfold posS; rw [hslot, hdiv]
  have eR : bigSep (Finset.Ico (3 * 0) (3 * 0 + 3)) (posR (F := F) c ℓ)
      = bigSep Finset.univ fun k : Fin 3 => iprop(atPos (ER (F := F)) (cell c (.rcv ℓ k)) 0 ∅ 0 ∗ reached (ER (F := F)) (cell c (.rcv ℓ k)) 0) :=
    deal_slots 0 _ _ fun k => by unfold posR; rw [hslot, hdiv]
  have eQ : bigSep (Finset.Ico (3 * 0) (3 * 0 + 3)) (rdrQ (F := F) c ℓ) = bigSep Finset.univ fun k : Fin 3 => readerAt (EK (F := F)) (rkey c ℓ k) 1 :=
    deal_slots 0 _ _ fun k => by unfold rdrQ; rw [hslot, hdiv]
  have eB : bigSep (Finset.Ico (3 * 0) (3 * 0 + 3)) (slotS (F := F) c ℓ) = bigSep Finset.univ fun k : Fin 3 => any_ (F := F) c (slotM (sb ℓ) k) :=
    deal_slots 0 _ _ fun k => by unfold slotS; rw [hslot]
  have hmarkS : iprop(recs (F := F) X W KN KS ∗ bigSep Finset.univ fun k : Fin 3 => atPos (ER (F := F)) (cell c (.snd ℓ k)) 0 ∅ 0)
      ⊢ bigSep Finset.univ fun k : Fin 3 => iprop(atPos (ER (F := F)) (cell c (.snd ℓ k)) 0 ∅ 0 ∗ reached (ER (F := F)) (cell c (.snd ℓ k)) 0) :=
    bigSep_with_persistent fun k _ => (sep_mono_left (recs_reached X W KN KS c (some (.snd ℓ k)))).trans sep_comm
  have hmarkR : iprop(recs (F := F) X W KN KS ∗ bigSep Finset.univ fun k : Fin 3 => atPos (ER (F := F)) (cell c (.rcv ℓ k)) 0 ∅ 0)
      ⊢ bigSep Finset.univ fun k : Fin 3 => iprop(atPos (ER (F := F)) (cell c (.rcv ℓ k)) 0 ∅ 0 ∗ reached (ER (F := F)) (cell c (.rcv ℓ k)) 0) :=
    bigSep_with_persistent fun k _ => (sep_mono_left (recs_reached X W KN KS c (some (.rcv ℓ k)))).trans sep_comm
  have hL : LaneSt (F := F) c ℓ 0 = iprop((bigSep (Finset.Ico 0 15) (sendTok (F := F) c ℓ) ∗ bigSep (Finset.Ico (3 * 0) (3 * 0 + 3)) (slotS (F := F) c ℓ)
        ∗ bigSep (Finset.Ico 0 0) (credS (F := F) c ℓ) ∗ bigSep (Finset.Ico (3 * 0) (3 * 0 + 3)) (posS (F := F) c ℓ))
      ∗ (bigSep (Finset.Ico 0 15) (credR (F := F) c ℓ) ∗ bigSep (Finset.Ico (3 * 0) (3 * 0 + 3)) (posR (F := F) c ℓ)
        ∗ bigSep (Finset.Ico 0 0) (slotQ (F := F) c ℓ) ∗ heard (Entered (F := F)) {c})
      ∗ (bigSep (Finset.Ico (3 * 0) (3 * 0 + 3)) (rdrQ (F := F) c ℓ) ∗ bigSep (Finset.Ico 0 12) (tokQ (F := F) c ℓ) ∗ bigSep (Finset.range 0) (fun i => ready (F := F) c ℓ (i + 3)))
      ∗ (bigSep (Finset.Ico 0 12) (credM (F := F) c ℓ)
        ∗ ∃ T : Finset ℕ, ⌜T ⊆ Finset.range 12 ∧ 0 ≤ T.card⌝ ∗ atPos (ER (F := F)) (cell c (.crd ℓ)) 0 T 0
          ∗ bigSep T (fun n => readyTo (F := F) (dst c ℓ) ℓ (n + 1)))) := rfl
  rw [hL, eS, eR, eQ, eB, Finset.Ico_self, bigSep_empty, bigSep_empty, Finset.range_zero, bigSep_empty]
  unfold LaneTok
  iintro ⟨#HR, #HE, HpS, HpR, HpC, Hrd, ⟨Hst, Htq, HcR, HcM⟩, Hb⟩
  ihave HpS := hmarkS $$ [HpS]
  · isplitr; · iexact HR
    iexact HpS
  ihave HpR := hmarkR $$ [HpR]
  · isplitr; · iexact HR
    iexact HpR
  ihave Hb := (slots_open c (sb ℓ) (sb_set ℓ)) $$ Hb
  isplitl [Hst Hb HpS]
  · isplitl [Hst]; · iexact Hst
    isplitl [Hb]; · iexact Hb
    isplitr; · iempintro
    iexact HpS
  isplitl [HcR HpR]
  · isplitl [HcR]; · iexact HcR
    isplitl [HpR]; · iexact HpR
    isplitr; · iempintro
    iapply (heard_single (Φ := Entered (F := F)) c); iexact HE
  isplitl [Hrd Htq]
  · isplitl [Hrd]; · iexact Hrd
    isplitl [Htq]; · iexact Htq
    iempintro
  isplitl [HcM]; · iexact HcM
  iexists ∅
  isplitr; · ipureintro; exact ⟨Finset.empty_subset _, Nat.zero_le _⟩
  isplitl [HpC]; · iexact HpC
  rw [bigSep_empty]; iempintro

theorem lane_end (c : Dev nD) (ℓ : Fin 4) :
    iprop(recs (F := F) X W KN KS ∗ SendSt c ℓ 15 15 ∗ RecvSt c ℓ 12 15 ∗ TakeSt c ℓ 12)
      ⊢ (|={Set.univ}=> iprop((bigSep Finset.univ fun k : Fin 3 => atPos (ER (F := F)) (cell c (.snd ℓ k)) 5 ∅ 0)
        ∗ (bigSep Finset.univ fun k : Fin 3 => atPos (ER (F := F)) (cell c (.rcv ℓ k)) 5 ∅ 0) ∗ atPos (ER (F := F)) (cell c (.crd ℓ)) 1 ∅ 0
        ∗ buf c (sb ℓ) ∗ buf c (rb ℓ)) : sProp 𝕄) := by
  have hslot : ∀ k : Fin 3, slot (3 * 5 + k.val) = k := by decide
  have hslot' : ∀ k : Fin 3, slot (3 * 4 + k.val) = k := by decide
  have hdiv : ∀ k : Fin 3, (3 * 5 + k.val) / 3 = 5 := by decide
  have eS : bigSep (Finset.Ico (3 * 5) (3 * 5 + 3)) (posS (F := F) c ℓ)
      = bigSep Finset.univ fun k : Fin 3 => iprop(atPos (ER (F := F)) (cell c (.snd ℓ k)) 5 ∅ 0 ∗ reached (ER (F := F)) (cell c (.snd ℓ k)) 5) :=
    deal_slots 5 _ _ fun k => by unfold posS; rw [hslot, hdiv]
  have eR : bigSep (Finset.Ico (3 * 5) (3 * 5 + 3)) (posR (F := F) c ℓ)
      = bigSep Finset.univ fun k : Fin 3 => iprop(atPos (ER (F := F)) (cell c (.rcv ℓ k)) 5 ∅ 0 ∗ reached (ER (F := F)) (cell c (.rcv ℓ k)) 5) :=
    deal_slots 5 _ _ fun k => by unfold posR; rw [hslot, hdiv]
  have eB : bigSep (Finset.Ico (3 * 5) (3 * 5 + 3)) (slotS (F := F) c ℓ) = bigSep Finset.univ fun k : Fin 3 => any_ (F := F) c (slotM (sb ℓ) k) :=
    deal_slots 5 _ _ fun k => by unfold slotS; rw [hslot]
  have eQ : bigSep (Finset.Ico (3 * 4) (3 * 4 + 3)) (slotQ (F := F) c ℓ)
      = bigSep Finset.univ fun k : Fin 3 => iprop(any_ (F := F) c (slotM (rb ℓ) k) ∗ reached (ER (F := F)) (cell c (.rcv ℓ k)) 5) :=
    deal_slots 4 _ _ fun k => by
      unfold slotQ; rw [hslot', show (3 * 4 + k.val) / 3 + 1 = 5 by have := k.isLt; omega]
  have hS : SendSt (F := F) c ℓ 15 15 = iprop(bigSep (Finset.Ico 15 15) (sendTok (F := F) c ℓ) ∗ bigSep (Finset.Ico (3 * 5) (3 * 5 + 3)) (slotS (F := F) c ℓ)
    ∗ bigSep (Finset.Ico 15 15) (credS (F := F) c ℓ) ∗ bigSep (Finset.Ico (3 * 5) (3 * 5 + 3)) (posS (F := F) c ℓ)) := rfl
  have hR : RecvSt (F := F) c ℓ 12 15 = iprop(bigSep (Finset.Ico 15 15) (credR (F := F) c ℓ) ∗ bigSep (Finset.Ico (3 * 5) (3 * 5 + 3)) (posR (F := F) c ℓ)
    ∗ bigSep (Finset.Ico (3 * 4) (3 * 4 + 3)) (slotQ (F := F) c ℓ) ∗ heard (Entered (F := F)) (hops c ℓ 15)) := rfl
  rw [hS, hR, eS, eR, eB, eQ, bigSep_sep', bigSep_sep', bigSep_sep']
  unfold TakeSt
  iintro ⟨#HR, ⟨-, Hb, -, HpS, -⟩, ⟨-, ⟨HpR, -⟩, ⟨Hq, -⟩, -⟩, ⟨-, ⟨%T, %hT, Hat, -⟩⟩⟩
  ihave #HI := (recs_cell X W KN KS c (some (.crd ℓ))) $$ HR
  have hT' : Finset.range 12 ⊆ T := by
    rw [Finset.eq_of_subset_of_card_le hT.1 (by rw [Finset.card_range]; exact hT.2)]
  imod (Rounds.fupd_skip ER (Rd X W) (g := cell c (.crd ℓ)) (κ := KN (c, some (.crd ℓ))) (R := 0) (m := 12) (T := T)
    ((Rd_duties X W c (some (.crd ℓ)) 0).trans_subset hT') ((Rd_expect X W c (some (.crd ℓ)) 0).symm) (Set.mem_univ _)) $$ [Hat] with ⟨Hat, -⟩
  · isplitr; · iexact HI
    iexact Hat
  imodintro
  isplitl [HpS]; · iexact HpS
  isplitl [HpR]; · iexact HpR
  isplitl [Hat]; · iexact Hat
  isplitl [Hb]; · iapply (slots_close c (sb ℓ) (sb_set ℓ)) $$ Hb
  iapply (slots_close c (rb ℓ) (rb_set ℓ)) $$ Hq

/-! ### Closing the cells -/

/-- The round every cell ends at. -/
def lastR : Option CK → ℕ
  | none => 1
  | some (.snd _ _) => 5
  | some (.rcv _ _) => 5
  | some (.crd _) => 1
  | some (.asn j) => if j = 0 then 0 else 1
  | some (.arc j) => if j = 0 then 0 else 1

theorem lastR_duties : ∀ (k : Option CK) (r : ℕ), lastR k ≤ r → duties k r = ∅
  | none, r, h => if_neg (by simp only [lastR] at h; omega)
  | some (.snd _ _), r, h => if_neg (by simp only [lastR] at h; omega)
  | some (.rcv _ _), r, h => if_neg (by simp only [lastR] at h; omega)
  | some (.crd _), r, h => if_neg (by simp only [lastR] at h; omega)
  | some (.asn j), r, h => if_neg fun ⟨h0, hj⟩ => by simp only [lastR, if_neg hj] at h; omega
  | some (.arc j), r, h => if_neg fun ⟨h0, hj⟩ => by simp only [lastR, if_neg hj] at h; omega

theorem close_cells (c : Dev nD) :
    iprop(recs (F := F) X W KN KS ∗ Poss c lastR)
      ⊢ (|={Set.univ}=> bigSep Finset.univ fun k : Option CK => semVal ((c : Thread nD τ), csem k) 0 : sProp 𝕄) := by
  unfold Poss
  refine BIBase.Entails.trans (bigSep_with_persistent (Ψ := fun k => iprop(|={Set.univ}=> semVal ((c : Thread nD τ), csem k) 0)) fun k _ => ?_) (bigSep_fupd _ _)
  refine (sep_mono_left (recs_cell X W KN KS c k)).trans ?_
  exact Rounds.cell_close ER (Rd X W) (Set.mem_univ (KN (c, k))) (fun h => h) (R := lastR k) fun r hr => (Rd_duties X W c k r).trans (lastR_duties k r hr)

/-! ### The body -/

theorem lanes_start (c : Dev nD) :
    iprop((recs (F := F) X W KN KS ∗ Entered c) ∗ (bigSep Finset.univ fun ℓ : Fin 4 => bigSep Finset.univ fun k : Fin 3 => atPos (ER (F := F)) (cell c (.snd ℓ k)) 0 ∅ 0)
        ∗ (bigSep Finset.univ fun ℓ : Fin 4 => bigSep Finset.univ fun k : Fin 3 => atPos (ER (F := F)) (cell c (.rcv ℓ k)) 0 ∅ 0)
        ∗ (bigSep Finset.univ fun ℓ : Fin 4 => atPos (ER (F := F)) (cell c (.crd ℓ)) 0 ∅ 0)
        ∗ (bigSep Finset.univ fun ℓ : Fin 4 => bigSep Finset.univ fun k : Fin 3 => readerAt (EK (F := F)) (rkey c ℓ k) 1)
        ∗ (bigSep Finset.univ fun ℓ : Fin 4 => LaneTok (F := F) c ℓ) ∗ (bigSep Finset.univ fun ℓ : Fin 4 => buf (F := F) c (sb ℓ)))
      ⊢ bigSep Finset.univ fun ℓ : Fin 4 => LaneSt c ℓ 0 := by
  rw [← bigSep_sep', ← bigSep_sep', ← bigSep_sep', ← bigSep_sep', ← bigSep_sep']
  exact bigSep_with_persistent fun ℓ _ => sep_assoc.1.trans (lane_start X W KN KS c ℓ)

theorem lanes_end (c : Dev nD) :
    iprop(recs (F := F) X W KN KS ∗ (bigSep Finset.univ fun ℓ : Fin 4 => iprop(SendSt (F := F) c ℓ 15 15 ∗ RecvSt (F := F) c ℓ 12 15 ∗ TakeSt (F := F) c ℓ 12)))
      ⊢ (|={Set.univ}=> iprop((bigSep Finset.univ fun ℓ : Fin 4 => bigSep Finset.univ fun k : Fin 3 => atPos (ER (F := F)) (cell c (.snd ℓ k)) 5 ∅ 0)
        ∗ (bigSep Finset.univ fun ℓ : Fin 4 => bigSep Finset.univ fun k : Fin 3 => atPos (ER (F := F)) (cell c (.rcv ℓ k)) 5 ∅ 0)
        ∗ (bigSep Finset.univ fun ℓ : Fin 4 => atPos (ER (F := F)) (cell c (.crd ℓ)) 1 ∅ 0)
        ∗ (bigSep Finset.univ fun ℓ : Fin 4 => buf (F := F) c (sb ℓ)) ∗ (bigSep Finset.univ fun ℓ : Fin 4 => buf (F := F) c (rb ℓ))) : sProp 𝕄) := by
  rw [← bigSep_sep', ← bigSep_sep', ← bigSep_sep', ← bigSep_sep']
  exact (bigSep_with_persistent fun ℓ _ => lane_end X W KN KS c ℓ).trans (bigSep_fupd _ _)

/-- What a device's body starts from. -/
def BodyIn (c : Dev nD) : sProp 𝕄 :=
  iprop(Poss (F := F) c (fun _ => 0) ∗ Rdrs (F := F) c 0 ∗ Toks (F := F) c ∗ scratch (F := F) c ∗ ins X W c ∗ buf (F := F) c om ∗ OW c (owe0 c))
/-- What it leaves. -/
def BodyOut (c : Dev nD) : sProp 𝕄 :=
  iprop((bigSep Finset.univ fun k : Option CK => semVal ((c : Thread nD τ), csem k) 0) ∗ scratch (F := F) c ∗ ins X W c
    ∗ (((c : Thread nD τ).loc cc0_stg2_0) ↦{fullShare} outF X W c) ∗ OW c 0)

/-- The positions by kind. -/
theorem poss_eq (c : Dev nD) (r : Option CK → ℕ) : Poss (F := F) c r
    = iprop(atPos (ER (F := F)) (barCell c) (r none) ∅ 0
      ∗ ((bigSep Finset.univ fun ℓ : Fin 4 => bigSep Finset.univ fun k : Fin 3 => atPos (ER (F := F)) (cell c (.snd ℓ k)) (r (some (.snd ℓ k))) ∅ 0)
        ∗ (bigSep Finset.univ fun ℓ : Fin 4 => bigSep Finset.univ fun k : Fin 3 => atPos (ER (F := F)) (cell c (.rcv ℓ k)) (r (some (.rcv ℓ k))) ∅ 0))
      ∗ (bigSep Finset.univ fun ℓ : Fin 4 => atPos (ER (F := F)) (cell c (.crd ℓ)) (r (some (.crd ℓ))) ∅ 0)
      ∗ (atPos (ER (F := F)) (cell c (.asn 0)) (r (some (.asn 0))) ∅ 0
        ∗ bigSep (Finset.Ico 1 16) fun i => atPos (ER (F := F)) (cell c (.asn (Fin.ofNat 16 i))) (r (some (.asn (Fin.ofNat 16 i)))) ∅ 0)
      ∗ atPos (ER (F := F)) (cell c (.arc 0)) (r (some (.arc 0))) ∅ 0
        ∗ bigSep (Finset.Ico 1 16) fun i => atPos (ER (F := F)) (cell c (.arc (Fin.ofNat 16 i))) (r (some (.arc (Fin.ofNat 16 i)))) ∅ 0) := by
  unfold Poss
  rw [bigSep_opt, bigSep_kinds, deal_partners, deal_partners]

theorem exWait_eq (c : Dev nD) : bigSep (Finset.Ico 1 16) (fun i => exWait (F := F) c (Fin.ofNat 16 i))
    = iprop((bigSep (Finset.Ico 1 16) fun i => cred (tallyAt (cell c (.arc (Fin.ofNat 16 i))) 0 NA))
      ∗ bigSep (Finset.Ico 1 16) fun i => atPos (ER (F := F)) (cell c (.arc (Fin.ofNat 16 i))) 0 ∅ 0) := by
  unfold exWait; rw [bigSep_sep']
theorem exDone_eq (c : Dev nD) : bigSep (Finset.Ico 1 16) (fun i => exDone (F := F) c (Fin.ofNat 16 i))
    = iprop((bigSep (Finset.Ico 1 16) fun i => any_ (F := F) c (partM (Fin.ofNat 16 i)))
      ∗ bigSep (Finset.Ico 1 16) fun i => atPos (ER (F := F)) (cell c (.arc (Fin.ofNat 16 i))) 1 ∅ 0) := by
  unfold exDone; rw [bigSep_sep']

set_option maxRecDepth 20000 in
/-- The positions at the end. -/
theorem poss_last (c : Dev nD) : Poss (F := F) c lastR
    = iprop(atPos (ER (F := F)) (barCell c) 1 ∅ 0
      ∗ ((bigSep Finset.univ fun ℓ : Fin 4 => bigSep Finset.univ fun k : Fin 3 => atPos (ER (F := F)) (cell c (.snd ℓ k)) 5 ∅ 0)
        ∗ (bigSep Finset.univ fun ℓ : Fin 4 => bigSep Finset.univ fun k : Fin 3 => atPos (ER (F := F)) (cell c (.rcv ℓ k)) 5 ∅ 0))
      ∗ (bigSep Finset.univ fun ℓ : Fin 4 => atPos (ER (F := F)) (cell c (.crd ℓ)) 1 ∅ 0)
      ∗ (atPos (ER (F := F)) (cell c (.asn 0)) 0 ∅ 0 ∗ bigSep (Finset.Ico 1 16) fun i => exPos (F := F) c 1 (Fin.ofNat 16 i))
      ∗ atPos (ER (F := F)) (cell c (.arc 0)) 0 ∅ 0
        ∗ bigSep (Finset.Ico 1 16) fun i => atPos (ER (F := F)) (cell c (.arc (Fin.ofNat 16 i))) 1 ∅ 0) := by
  have h : ∀ i ∈ Finset.Ico 1 16, (Fin.ofNat 16 i : Fin 16) ≠ 0 := by decide
  rw [poss_eq, bigSep_congr (s := Finset.Ico 1 16) (Ψ := fun i => exPos (F := F) c 1 (Fin.ofNat 16 i)) (fun i hi => by unfold exPos; rw [lastR, if_neg (h i hi)]),
    bigSep_congr (s := Finset.Ico 1 16) (Φ := fun i => atPos (ER (F := F)) (cell c (.arc (Fin.ofNat 16 i))) (lastR (some (.arc (Fin.ofNat 16 i)))) ∅ 0)
      (Ψ := fun i => atPos (ER (F := F)) (cell c (.arc (Fin.ofNat 16 i))) 1 ∅ 0) (fun i hi => by rw [lastR, if_neg (h i hi)])]
  rfl

theorem mid_eq : midRounds = (List.range' (0 + 1) 14).map (Fin.ofNat 16) := rfl

set_option maxHeartbeats 1000000 in
set_option maxRecDepth 20000 in
/-- The body takes a device from what the launch dealt it to what it hands back. -/
theorem body_sound (c : Dev nD) (Q : PUnit → sProp 𝕄) :
    iprop(recs (F := F) X W KN KS ∗ BodyIn X W c)
      ⊢ iprop((BodyOut X W c -∗ Q ⟨⟩) -∗ WP c (bodyOn (Memref.whole cc0_stg0_0) (Memref.whole cc0_stg1_0) om c) Q) := by
  unfold bodyOn BodyIn Toks scratch PartTok
  rw [mid_eq]
  have hr1 : RoundSt (F := F) X W c 0 = iprop(LaneSt c 0 0 ∗ LaneSt c 1 0 ∗ LaneSt c 2 0 ∗ LaneSt c 3 0 ∗ ins X W c ∗ OW c (oweAll c 0 0 0 0)) := rfl
  have hrd : Rdrs (F := F) c 1 = iprop((bigSep Finset.univ fun ℓ : Fin 4 => bigSep Finset.univ fun k : Fin 3 => readerAt (EK (F := F)) (rkey c ℓ k) 1)
      ∗ bigSep Finset.univ fun j : Fin 16 => readerAt (EK (F := F)) (akey c j) 1) := by unfold Rdrs; rw [bigSep_slots]
  have hrounds := op_rounds X W KN KS c (roundZ (Memref.whole cc0_stg0_0) (Memref.whole cc0_stg1_0) om c (exchange om c)) Q 14 0 (by omega)
  have hout0 : buf (F := F) c om ⊢ OutSt X W c 0 := by
    unfold buf OutSt
    iintro ⟨%f, H⟩
    iexists f
    isplitr; · ipureintro; intro ℓ h; exact absurd h (Nat.not_lt_zero _)
    iexact H
  have ham : buf (F := F) c am = iprop(∃ f : (cc0_scratch8 : Ref sig .tc).ty.Contents (Elt F), ((c : Thread nD τ).loc cc0_scratch8) ↦{fullShare} f) := rfl
  have hheard : heard (Entered (F := F)) (hops c 0 15) = heard (Entered (F := F)) Finset.univ := by rw [hops_all]
  have htake : iprop(recs (F := F) X W KN KS ∗ Entered (F := F) c ∗ writeTok (EK (F := F)) (akey c 0) 1) ⊢ (|={Set.univ}=> any_ (F := F) c (partM 0) : sProp 𝕄) := by
    refine (sep_mono_left (recs_slot X W KN KS (akey c 0))).trans ((sep_mono_right (sep_mono_left ?_)).trans
      (slot_take (E := EK (F := F)) (k := akey c 0) (S := keyPlace (akey c 0)) (Set.mem_univ _) 1))
    unfold Entered
    exact sep_elim_right.trans (bigSep_elim (Φ := fun j : Fin 16 => released (EK (F := F)) (akey c j) 1) (Finset.mem_univ 0))
  rw [poss_eq]
  iintro ⟨#HR, ⟨HpB, ⟨HpS, HpV⟩, HpC, ⟨Has0, Has⟩, Hac0, Hac⟩, Hrd, ⟨Hlt, ⟨Htk, Hw0, Hpc⟩, Hbt⟩, ⟨Hsb, Hrb, Ham, Har⟩, Hins, Hom, HO⟩ Hk
  imod (enter X W KN KS c) $$ [Hrd Hrb Har] with ⟨Hrd, #HE⟩
  · isplitr; · iexact HR
    isplitl [Hrd]; · iexact Hrd
    isplitl [Hrb]; · iexact Hrb
    iexact Har
  imod htake $$ [Hw0] with Hp0
  · isplitr; · iexact HR
    isplitr; · iexact HE
    iexact Hw0
  iapply (op_handshake X W KN KS c _ Q) $$ [Hbt HpB HO]
  · isplitr; · iexact HR
    isplitr; · iexact HE
    isplitl [Hbt]; · iexact Hbt
    isplitl [HpB]; · iexact HpB
    iexact HO
  iintro ⟨#HN, HpB, HO⟩
  ihave Hrd := (Entails.of_eq hrd) $$ Hrd
  icases Hrd with ⟨Hrd, -⟩
  ihave HL := (lanes_start X W KN KS c) $$ [HpS HpV HpC Hrd Hlt Hsb]
  · isplitr
    · isplitr; · iexact HR
      iexact HE
    isplitl [HpS]; · iexact HpS
    isplitl [HpV]; · iexact HpV
    isplitl [HpC]; · iexact HpC
    isplitl [Hrd]; · iexact Hrd
    isplitl [Hlt]; · iexact Hlt
    iexact Hsb
  ihave HL := (Entails.of_eq (bigSep_fin4 fun ℓ => LaneSt (F := F) c ℓ 0)) $$ HL
  icases HL with ⟨H0, H1, H2, H3⟩
  iapply (op_round0 X W KN KS c _ Q) $$ [H0 H1 H2 H3 Hins HO]
  · isplitr; · iexact HR
    isplitr; · iexact HN
    rw [hr1]
    isplitl [H0]; · iexact H0
    isplitl [H1]; · iexact H1
    isplitl [H2]; · iexact H2
    isplitl [H3]; · iexact H3
    isplitl [Hins]; · iexact Hins
    iexact HO
  iintro HS
  iapply hrounds $$ [HS]
  · isplitr; · iexact HR
    isplitr; · iexact HN
    iexact HS
  iintro HS
  ihave Hom := hout0 $$ Hom
  iapply (op_roundZ X W KN KS c _ Q) $$ [HS Hom]
  · isplitr; · iexact HR
    isplitr; · iexact HE
    isplitl [Hom]; · iexact Hom
    iexact HS
  unfold DoneSt
  iintro ⟨⟨S0, R0, -, T0⟩, ⟨S1, R1, -, T1⟩, ⟨S2, R2, -, T2⟩, ⟨S3, R3, -, T3⟩, Hins, Hom, HO⟩
  ihave R0 := (recv_heard c 0 12 15) $$ R0
  icases R0 with ⟨R0, Hh⟩
  ihave #Hh := (Entails.of_eq hheard) $$ Hh
  iapply (op_exchange X W KN KS c Q) $$ [Ham Htk Hpc Hac Has S0 S1 S2 S3 Hom HO]
  · isplitr; · iexact HR
    isplitr; · iexact Hh
    isplitl [Ham Htk Hpc Hac Has]
    · unfold ExIn
      rw [exWait_eq]
      isplitl [Ham]; · rw [← ham]; iexact Ham
      isplitl [Htk]; · iexact Htk
      isplitl [Hpc Hac]
      · isplitl [Hpc]; · iexact Hpc
        iexact Hac
      unfold exPos
      iexact Has
    isplitl [S0]; · iexact S0
    isplitl [S1]; · iexact S1
    isplitl [S2]; · iexact S2
    isplitl [S3]; · iexact S3
    isplitl [Hom]; · iexact Hom
    iexact HO
  unfold ExOut
  rw [exDone_eq]
  iintro ⟨⟨Ham, ⟨Hpt, Hac⟩, Has⟩, S0, S1, S2, S3, Hom, HO⟩
  imod (lanes_end X W KN KS c) $$ [S0 S1 S2 S3 R0 R1 R2 R3 T0 T1 T2 T3] with ⟨HpS, HpV, HpC, Hsb, Hrb⟩
  · isplitr; · iexact HR
    rw [bigSep_fin4]
    isplitl [S0 R0 T0]
    · isplitl [S0]; · iexact S0
      isplitl [R0]; · iexact R0
      iexact T0
    isplitl [S1 R1 T1]
    · isplitl [S1]; · iexact S1
      isplitl [R1]; · iexact R1
      iexact T1
    isplitl [S2 R2 T2]
    · isplitl [S2]; · iexact S2
      isplitl [R2]; · iexact R2
      iexact T2
    isplitl [S3]; · iexact S3
    isplitl [R3]; · iexact R3
    iexact T3
  imod (close_cells X W KN KS c) $$ [HpB HpS HpV HpC Has0 Has Hac0 Hac] with Hz
  · isplitr; · iexact HR
    rw [poss_last]
    isplitl [HpB]; · iexact HpB
    isplitl [HpS HpV]
    · isplitl [HpS]; · iexact HpS
      iexact HpV
    isplitl [HpC]; · iexact HpC
    isplitl [Has0 Has]
    · isplitl [Has0]; · iexact Has0
      iexact Has
    isplitl [Hac0]; · iexact Hac0
    iexact Hac
  rw [wp_ret]; imodintro
  iapply Hk
  unfold BodyOut scratch
  isplitl [Hz]; · iexact Hz
  isplitl [Hsb Hrb Ham Hpt Hp0]
  · isplitl [Hsb]; · iexact Hsb
    isplitl [Hrb]; · iexact Hrb
    isplitl [Ham]; · rw [ham]; iexact Ham
    iapply (parts_close c)
    rw [deal_partners]
    isplitl [Hp0]; · iexact Hp0
    iexact Hpt
  isplitl [Hins]; · iexact Hins
  isplitl [Hom]; · iexact Hom
  iexact HO

end Cert.KernelIdeal.Ring

end
-- ==== Proof.Ghost.lean ====
/-
# What the launch deals

Every device's cells and slots are allocated with all their tokens, and the tokens are moved to the devices that pay. A
token is indexed by its cell's device; the payer is that device's neighbour or partner, so each kind of token moves by one
bijection of the devices.
-/
module

public import proofs.«01_k».proof.Proof.Body

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok initSlots slots_init)

variable {F : FTy → Type} [FloatOps F]

local notation "𝕄" => MT nD τ sig ℕ (Elt F) ℕ UU ℕ

variable (X : Dev nD → (cc0_stg0_0 : Ref sig .tc).ty.Contents (Elt F)) (W : Dev nD → (cc0_stg1_0 : Ref sig .tc).ty.Contents (Elt F))

/-! ### Moving around the devices -/

def dstE (ℓ : Fin 4) : Dev nD ≃ Dev nD := ⟨fun c => dst c ℓ, fun c => src c ℓ, fun c => src_dst c ℓ, fun c => dst_src c ℓ⟩
def parE (j : Fin 16) : Dev nD ≃ Dev nD := ⟨fun c => par c j, fun c => par c j, fun c => par_par c j, fun c => par_par c j⟩
theorem lft_rgt : ∀ c, lft (rgt c) = c := by decide +kernel
theorem rgt_lft : ∀ c, rgt (lft c) = c := by decide +kernel
def rgtE : Dev nD ≃ Dev nD := ⟨rgt, lft, lft_rgt, rgt_lft⟩

omit [FloatOps F] in
/-- A family over the devices, each member moved by a bijection of its own. -/
theorem deal_around {I : Type} [DecidableEq I] (s : Finset I) (e : I → Dev nD ≃ Dev nD) (Φ : I → Dev nD → sProp 𝕄) :
    (bigSep Finset.univ fun c => bigSep s fun i => Φ i c) = bigSep Finset.univ fun c => bigSep s fun i => Φ i (e i c) := by
  induction s using Finset.induction_on with
  | empty => simp only [bigSep_empty]
  | insert a s ha ih =>
    have h : ∀ Ψ : I → Dev nD → sProp 𝕄, (bigSep Finset.univ fun c => bigSep (insert a s) fun i => Ψ i c)
        = iprop(bigSep Finset.univ (Ψ a) ∗ bigSep Finset.univ fun c => bigSep s fun i => Ψ i c) := fun Ψ => by
      rw [← bigSep_sep']; exact bigSep_congr fun c _ => bigSep_insert ha
    rw [h, h (fun i c => Φ i (e i c)), ih, bigSep_univ_equiv (e a) (Φ a)]

/-- The same for sums. -/
theorem sum_around {I A : Type} [AddCommMonoid A] (s : Finset I) (e : I → Dev nD ≃ Dev nD) (f : I → Dev nD → A) :
    ∑ c, ∑ i ∈ s, f i (e i c) = ∑ c, ∑ i ∈ s, f i c := by
  rw [Finset.sum_comm, Finset.sum_congr rfl fun i _ => Equiv.sum_comp (e i) (f i), Finset.sum_comm]

/-! ### The credit -/

/-- What device `c`'s cells are owed. -/
def dueTo (c : Dev nD) : CellTallies nD τ sig ℕ :=
  (∑ ℓ : Fin 4, ∑ i ∈ Finset.Ico 0 15, tallyAt (cell c (.rcv ℓ (slot i))) i N) + (∑ ℓ : Fin 4, ∑ n ∈ Finset.Ico 0 12, tallyAt (cell c (.crd ℓ)) n 1)
    + (∑ i ∈ Finset.Ico 1 16, tallyAt (cell c (.arc (Fin.ofNat 16 i))) 0 NA) + (tallyAt (barCell c) 0 1 + tallyAt (barCell c) 0 1)

theorem owe0_eq (c : Dev nD) : owe0 c = (∑ ℓ : Fin 4, ∑ i ∈ Finset.Ico 0 15, tallyAt (cell (dst c ℓ) (.rcv ℓ (slot i))) i N)
    + (∑ ℓ : Fin 4, ∑ n ∈ Finset.Ico 0 12, tallyAt (cell (src c ℓ) (.crd ℓ)) n 1)
    + (∑ i ∈ Finset.Ico 1 16, tallyAt (cell (par c (Fin.ofNat 16 i)) (.arc (Fin.ofNat 16 i))) 0 NA) + (tallyAt (barCell (rgt c)) 0 1 + tallyAt (barCell (lft c)) 0 1) := by
  unfold owe0 oweAll laneOwe oweA
  rw [show min (0 - 1) 12 = 0 from rfl, ← Finset.sum_add_distrib, Fin.sum_univ_four]
  unfold owe
  abel

theorem sum_owe0 : ∑ d, owe0 d = ∑ d, dueTo d := by
  rw [Finset.sum_congr rfl fun d _ => owe0_eq d]
  unfold dueTo
  simp only [Finset.sum_add_distrib]
  have h1 := sum_around (Finset.univ : Finset (Fin 4)) dstE (fun ℓ c => ∑ i ∈ Finset.Ico 0 15, tallyAt (Ix := ℕ) (cell c (.rcv ℓ (slot i))) i N)
  have h2 := sum_around (Finset.univ : Finset (Fin 4)) (fun ℓ => (dstE ℓ).symm) (fun ℓ c => ∑ n ∈ Finset.Ico 0 12, tallyAt (Ix := ℕ) (cell c (.crd ℓ)) n 1)
  have h3 := sum_around (Finset.Ico 1 16) (fun i => parE (Fin.ofNat 16 i)) (fun i c => tallyAt (Ix := ℕ) (cell c (.arc (Fin.ofNat 16 i))) 0 NA)
  have h4 := Equiv.sum_comp rgtE (fun c => tallyAt (Ix := ℕ) (barCell c) 0 1)
  have h5 := Equiv.sum_comp rgtE.symm (fun c => tallyAt (Ix := ℕ) (barCell c) 0 1)
  exact congrArg₂ (· + ·) (congrArg₂ (· + ·) (congrArg₂ (· + ·) h1 h2) h3) (congrArg₂ (· + ·) h4 h5)

/-- Only device `c`'s cells are in `T`. -/
def On (c : Dev nD) (T : CellTallies nD τ sig ℕ) : Prop := ∀ g, T g ≠ 0 → g.1 = (c : Thread nD τ)
theorem On.add {c : Dev nD} {T T' : CellTallies nD τ sig ℕ} (h : On c T) (h' : On c T') : On c (T + T') := fun g hg => by
  by_cases h0 : T g = 0
  · exact h' g fun h1 => hg (by rw [Pi.add_apply, h0, h1, add_zero])
  · exact h g h0
theorem On.sum {c : Dev nD} {I : Type} (s : Finset I) (T : I → CellTallies nD τ sig ℕ) (h : ∀ i, On c (T i)) : On c (∑ i ∈ s, T i) := by
  classical
  induction s using Finset.induction_on with
  | empty => rw [Finset.sum_empty]; exact fun g hg => absurd rfl hg
  | insert a s ha ih => rw [Finset.sum_insert ha]; exact (h a).add ih
theorem On.tally (c : Dev nD) (sm : SemLoc sig) (u n : ℕ) : On c (tallyAt ((c : Thread nD τ), sm) u n) := fun g hg => by
  by_contra h
  exact hg (tallyAt_ne_cell (fun h' => h (congrArg Prod.fst h')) u n)
theorem on_dueTo (c : Dev nD) : On c (dueTo c) :=
  (((On.sum _ _ fun ℓ => On.sum _ _ fun i => On.tally _ _ _ _).add (On.sum _ _ fun ℓ => On.sum _ _ fun i => On.tally _ _ _ _)).add
    (On.sum _ _ fun i => On.tally _ _ _ _)).add ((On.tally _ _ _ _).add (On.tally _ _ _ _))

theorem tally_two (g : GSem nD τ sig) : (tallyAt g 0 1 + tallyAt g 0 1 : CellTallies nD τ sig ℕ) = tallyAt g 0 2 := by
  unfold tallyAt; rw [← tallyOn_add, ← Finsupp.single_add]

/-- The waits device `c` may make. -/
def Creds (c : Dev nD) : sProp 𝕄 :=
  iprop((((bigSep Finset.univ fun ℓ : Fin 4 => bigSep (Finset.Ico 0 15) (credR (F := F) c ℓ)) ∗ bigSep Finset.univ fun ℓ : Fin 4 => bigSep (Finset.Ico 0 12) (credM (F := F) c ℓ))
    ∗ bigSep (Finset.Ico 1 16) (fun i => cred (tallyAt (cell c (.arc (Fin.ofNat 16 i))) 0 NA))) ∗ cred (tallyAt (barCell c) 0 2))

omit [FloatOps F] in
theorem cred_plus (a b : CellTallies nD τ sig ℕ) : (cred (a + b) : sProp 𝕄) = iprop(cred a ∗ cred b) := BI.Entails.antisymm (cred_add _ _).1 (cred_add _ _).2

omit [FloatOps F] in
theorem creds (c : Dev nD) : (Pipeline.launchCred owe0 c : sProp 𝕄) = Creds c := by
  rw [Pipeline.launchCred_of_sum owe0 dueTo sum_owe0 on_dueTo c]
  unfold dueTo Creds
  rw [tally_two, cred_plus, cred_plus, cred_plus, Pipeline.cred_finsetSum, Pipeline.cred_finsetSum, Pipeline.cred_finsetSum,
    bigSep_congr (s := Finset.univ) (fun (ℓ : Fin 4) _ => Pipeline.cred_finsetSum (Finset.Ico 0 15) (fun i => tallyAt (cell c (.rcv ℓ (slot i))) i N)),
    bigSep_congr (s := Finset.univ) (fun (ℓ : Fin 4) _ => Pipeline.cred_finsetSum (Finset.Ico 0 12) (fun n => tallyAt (cell c (.crd ℓ)) n 1))]
  rfl

/-! ### The tokens -/

/-- A cell's tokens that are paid. -/
def cellTok (c : Dev nD) : Option CK → sProp 𝕄
  | none => iprop(dutyTok (ER (F := F)) (barCell c) 0 0 ∗ dutyTok (ER (F := F)) (barCell c) 0 1)
  | some (.snd ℓ k) => bigSep (Finset.range 5) fun r => dutyTok (ER (F := F)) (cell c (.snd ℓ k)) r 0
  | some (.rcv ℓ k) => bigSep (Finset.range 5) fun r => dutyTok (ER (F := F)) (cell c (.rcv ℓ k)) r 0
  | some (.crd ℓ) => bigSep (Finset.Ico 0 12) fun n => dutyTok (ER (F := F)) (cell c (.crd ℓ)) 0 n
  | some (.asn j) => dutyTok (ER (F := F)) (cell c (.asn j)) 0 0
  | some (.arc j) => dutyTok (ER (F := F)) (cell c (.arc j)) 0 0

omit [FloatOps F] in
/-- They are among the tokens of five rounds of twelve payments. -/
theorem cellTok_of (c : Dev nD) (k : Option CK) :
    (bigSep (Finset.range 5) fun r => bigSep (Finset.range 12) fun d => dutyTok (ER (F := F)) ((c : Thread nD τ), csem k) r d) ⊢ cellTok (F := F) c k := by
  have hrow : (bigSep (Finset.range 5) fun r => bigSep (Finset.range 12) fun d => dutyTok (ER (F := F)) ((c : Thread nD τ), csem k) r d)
      ⊢ bigSep (Finset.range 12) fun d => dutyTok (ER (F := F)) ((c : Thread nD τ), csem k) 0 d := bigSep_elim (Finset.mem_range.mpr (by decide))
  have hcol : (bigSep (Finset.range 5) fun r => bigSep (Finset.range 12) fun d => dutyTok (ER (F := F)) ((c : Thread nD τ), csem k) r d)
      ⊢ bigSep (Finset.range 5) fun r => dutyTok (ER (F := F)) ((c : Thread nD τ), csem k) r 0 :=
    bigSep_mono fun r _ => bigSep_elim (Finset.mem_range.mpr (by decide))
  have hone : (bigSep (Finset.range 12) fun d => dutyTok (ER (F := F)) ((c : Thread nD τ), csem k) 0 d)
      ⊢ dutyTok (ER (F := F)) ((c : Thread nD τ), csem k) 0 0 := bigSep_elim (Finset.mem_range.mpr (by decide))
  rcases k with _ | (_ | _ | ℓ | _ | _)
  · refine hrow.trans ((bigSep_subset (t := {0, 1}) (by decide)).trans ?_)
    rw [bigSep_insert (by decide), bigSep_singleton]; exact BI.Entails.refl _
  · exact hcol
  · exact hcol
  · exact hrow.trans (Entails.of_eq (by rw [Finset.range_eq_Ico]; rfl))
  · exact hrow.trans hone
  · exact hrow.trans hone

/-- The tokens of device `c`'s cells and slots. -/
def Own (c : Dev nD) : sProp 𝕄 :=
  iprop((dutyTok (ER (F := F)) (barCell c) 0 0 ∗ dutyTok (ER (F := F)) (barCell c) 0 1)
    ∗ (bigSep Finset.univ fun ℓ : Fin 4 => bigSep (Finset.Ico 0 15) fun i => dutyTok (ER (F := F)) (cell c (.snd ℓ (slot i))) (i / 3) 0)
    ∗ (bigSep Finset.univ fun ℓ : Fin 4 => bigSep (Finset.Ico 0 15) fun i => dutyTok (ER (F := F)) (cell c (.rcv ℓ (slot i))) (i / 3) 0)
    ∗ (bigSep Finset.univ fun ℓ : Fin 4 => bigSep (Finset.Ico 0 12) fun n => dutyTok (ER (F := F)) (cell c (.crd ℓ)) 0 n)
    ∗ (bigSep (Finset.Ico 1 16) fun i => dutyTok (ER (F := F)) (cell c (.asn (Fin.ofNat 16 i))) 0 0)
    ∗ (bigSep (Finset.Ico 1 16) fun i => dutyTok (ER (F := F)) (cell c (.arc (Fin.ofNat 16 i))) 0 0)
    ∗ (bigSep Finset.univ fun ℓ : Fin 4 => bigSep (Finset.Ico 0 15) fun i => writeTok (EK (F := F)) (rkey c ℓ (slot i)) (i / 3 + 1))
    ∗ writeTok (EK (F := F)) (akey c 0) 1
    ∗ bigSep (Finset.Ico 1 16) fun i => writeTok (EK (F := F)) (akey c (Fin.ofNat 16 i)) 1)

/-- The tokens a device's cells and slots are made with. -/
def Minted (c : Dev nD) : sProp 𝕄 :=
  iprop((bigSep Finset.univ fun k : Option CK => bigSep (Finset.range 5) fun r => bigSep (Finset.range 12) fun d => dutyTok (ER (F := F)) ((c : Thread nD τ), csem k) r d)
    ∗ bigSep Finset.univ fun x : Fin 4 × Fin 3 ⊕ Fin 16 => bigSep (Finset.range 5) fun t => writeTok (EK (F := F)) (c, x) (t + 1))

omit [FloatOps F] in
theorem own_of (c : Dev nD) : Minted (F := F) c ⊢ Own (F := F) c := by
  unfold Minted Own
  have h1 : (bigSep Finset.univ fun k : Option CK => bigSep (Finset.range 5) fun r => bigSep (Finset.range 12) fun d => dutyTok (ER (F := F)) ((c : Thread nD τ), csem k) r d)
      ⊢ bigSep Finset.univ (cellTok (F := F) c) := bigSep_mono fun k _ => cellTok_of c k
  have h2 : bigSep Finset.univ (cellTok (F := F) c) = iprop((dutyTok (ER (F := F)) (barCell c) 0 0 ∗ dutyTok (ER (F := F)) (barCell c) 0 1)
      ∗ ((bigSep Finset.univ fun ℓ : Fin 4 => bigSep (Finset.Ico 0 15) fun i => dutyTok (ER (F := F)) (cell c (.snd ℓ (slot i))) (i / 3) 0)
        ∗ (bigSep Finset.univ fun ℓ : Fin 4 => bigSep (Finset.Ico 0 15) fun i => dutyTok (ER (F := F)) (cell c (.rcv ℓ (slot i))) (i / 3) 0))
      ∗ (bigSep Finset.univ fun ℓ : Fin 4 => bigSep (Finset.Ico 0 12) fun n => dutyTok (ER (F := F)) (cell c (.crd ℓ)) 0 n)
      ∗ (dutyTok (ER (F := F)) (cell c (.asn 0)) 0 0 ∗ bigSep (Finset.Ico 1 16) fun i => dutyTok (ER (F := F)) (cell c (.asn (Fin.ofNat 16 i))) 0 0)
      ∗ (dutyTok (ER (F := F)) (cell c (.arc 0)) 0 0 ∗ bigSep (Finset.Ico 1 16) fun i => dutyTok (ER (F := F)) (cell c (.arc (Fin.ofNat 16 i))) 0 0)) := by
    rw [bigSep_opt, bigSep_kinds, deal_partners, deal_partners]
    simp only [cellTok]
    rw [bigSep_congr (s := Finset.univ) (fun (ℓ : Fin 4) _ => deal_rounds fun k r => dutyTok (ER (F := F)) (cell c (.snd ℓ k)) r 0),
      bigSep_congr (s := Finset.univ) (fun (ℓ : Fin 4) _ => deal_rounds fun k r => dutyTok (ER (F := F)) (cell c (.rcv ℓ k)) r 0)]
  have h3 : (bigSep Finset.univ fun x : Fin 4 × Fin 3 ⊕ Fin 16 => bigSep (Finset.range 5) fun t => writeTok (EK (F := F)) (c, x) (t + 1))
      = iprop((bigSep Finset.univ fun ℓ : Fin 4 => bigSep (Finset.Ico 0 15) fun i => writeTok (EK (F := F)) (rkey c ℓ (slot i)) (i / 3 + 1))
        ∗ bigSep Finset.univ fun j : Fin 16 => bigSep (Finset.range 5) fun t => writeTok (EK (F := F)) (akey c j) (t + 1)) := by
    rw [bigSep_slots, bigSep_congr (s := Finset.univ) (fun (ℓ : Fin 4) _ => deal_rounds fun k t => writeTok (EK (F := F)) (rkey c ℓ k) (t + 1))]
  have h4 : (bigSep Finset.univ fun j : Fin 16 => bigSep (Finset.range 5) fun t => writeTok (EK (F := F)) (akey c j) (t + 1))
      ⊢ bigSep Finset.univ fun j : Fin 16 => writeTok (EK (F := F)) (akey c j) 1 :=
    bigSep_mono fun j _ => bigSep_elim (Φ := fun t => writeTok (EK (F := F)) (akey c j) (t + 1)) (i := 0) (Finset.mem_range.mpr (by decide))
  have h4' := h4.trans (Entails.of_eq (deal_partners fun j => writeTok (EK (F := F)) (akey c j) 1))
  rw [h3]
  iintro ⟨HD, HWr, HWa⟩
  ihave HD := h1 $$ HD
  ihave HD := (Entails.of_eq h2) $$ HD
  icases HD with ⟨HB, ⟨HS, HV⟩, HC, ⟨-, HA⟩, -, HR⟩
  ihave HWa := h4' $$ HWa
  icases HWa with ⟨HW0, HWa⟩
  isplitl [HB]; · iexact HB
  isplitl [HS]; · iexact HS
  isplitl [HV]; · iexact HV
  isplitl [HC]; · iexact HC
  isplitl [HA]; · iexact HA
  isplitl [HR]; · iexact HR
  isplitl [HWr]; · iexact HWr
  isplitl [HW0]; · iexact HW0
  iexact HWa

/-- The payments device `c` makes. -/
def Pays (c : Dev nD) : sProp 𝕄 :=
  iprop((dutyTok (ER (F := F)) (barCell (rgt c)) 0 0 ∗ dutyTok (ER (F := F)) (barCell (lft c)) 0 1)
    ∗ (bigSep Finset.univ fun ℓ : Fin 4 => bigSep (Finset.Ico 0 15) fun i => dutyTok (ER (F := F)) (cell c (.snd ℓ (slot i))) (i / 3) 0)
    ∗ (bigSep Finset.univ fun ℓ : Fin 4 => bigSep (Finset.Ico 0 15) fun i => dutyTok (ER (F := F)) (cell (dst c ℓ) (.rcv ℓ (slot i))) (i / 3) 0)
    ∗ (bigSep Finset.univ fun ℓ : Fin 4 => bigSep (Finset.Ico 0 12) fun n => dutyTok (ER (F := F)) (cell (src c ℓ) (.crd ℓ)) 0 n)
    ∗ (bigSep (Finset.Ico 1 16) fun i => dutyTok (ER (F := F)) (cell c (.asn (Fin.ofNat 16 i))) 0 0)
    ∗ (bigSep (Finset.Ico 1 16) fun i => dutyTok (ER (F := F)) (cell (par c (Fin.ofNat 16 i)) (.arc (Fin.ofNat 16 i))) 0 0)
    ∗ (bigSep Finset.univ fun ℓ : Fin 4 => bigSep (Finset.Ico 0 15) fun i => writeTok (EK (F := F)) (rkey (dst c ℓ) ℓ (slot i)) (i / 3 + 1))
    ∗ writeTok (EK (F := F)) (akey c 0) 1
    ∗ bigSep (Finset.Ico 1 16) fun i => writeTok (EK (F := F)) (akey (par c (Fin.ofNat 16 i)) (Fin.ofNat 16 i)) 1)

omit [FloatOps F] in
/-- The tokens go to those who pay. -/
theorem pays_eq : bigSep Finset.univ (Own (F := F)) = bigSep Finset.univ (Pays (F := F)) := by
  unfold Own Pays
  rw [bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_univ_equiv rgtE (fun c : Dev nD => dutyTok (ER (F := F)) (barCell c) 0 0),
    bigSep_univ_equiv rgtE.symm (fun c : Dev nD => dutyTok (ER (F := F)) (barCell c) 0 1),
    deal_around Finset.univ dstE (fun ℓ c => bigSep (Finset.Ico 0 15) fun i => dutyTok (ER (F := F)) (cell c (.rcv ℓ (slot i))) (i / 3) 0),
    deal_around Finset.univ (fun ℓ => (dstE ℓ).symm) (fun ℓ c => bigSep (Finset.Ico 0 12) fun n => dutyTok (ER (F := F)) (cell c (.crd ℓ)) 0 n),
    deal_around (Finset.Ico 1 16) (fun i => parE (Fin.ofNat 16 i)) (fun i c => dutyTok (ER (F := F)) (cell c (.arc (Fin.ofNat 16 i))) 0 0),
    deal_around Finset.univ dstE (fun ℓ c => bigSep (Finset.Ico 0 15) fun i => writeTok (EK (F := F)) (rkey c ℓ (slot i)) (i / 3 + 1)),
    deal_around (Finset.Ico 1 16) (fun i => parE (Fin.ofNat 16 i)) (fun i c => writeTok (EK (F := F)) (akey c (Fin.ofNat 16 i)) 1)]
  rfl

omit [FloatOps F] in
/-- Payments and waits are what a device needs. -/
theorem toks_of (c : Dev nD) : iprop(Pays (F := F) c ∗ Creds c) ⊢ Toks (F := F) c := by
  unfold Pays Creds Toks PartTok BarTok LaneTok
  have e1 (ℓ : Fin 4) : bigSep (Finset.Ico 0 15) (sendTok (F := F) c ℓ) = bigSep (Finset.Ico 0 15) fun i => sendTok (F := F) c ℓ i := rfl
  have e2 : bigSep (Finset.Ico 1 16) (exTok (F := F) c) = bigSep (Finset.Ico 1 16) fun i => exTok (F := F) c i := rfl
  simp only [e1, e2, sendTok, tokQ, exTok, bigSep_sep']
  iintro ⟨⟨⟨HB0, HB1⟩, HS, HV, HC, HA, HR, HWr, HW0, HWa⟩, ⟨⟨HcR, HcM⟩, HcA⟩, HcB⟩
  isplitl [HS HV HWr HC HcR HcM]
  · isplitl [HS HV HWr]
    · isplitl [HS]; · iexact HS
      isplitl [HV]; · iexact HV
      iexact HWr
    isplitl [HC]; · iexact HC
    isplitl [HcR]; · iexact HcR
    iexact HcM
  isplitl [HA HR HW0 HWa HcA]
  · isplitl [HA HR HWa]
    · isplitl [HA]; · iexact HA
      isplitl [HR]; · iexact HR
      iexact HWa
    isplitl [HW0]; · iexact HW0
    iexact HcA
  isplitl [HB1]; · iexact HB1
  isplitl [HB0]; · iexact HB0
  iexact HcB

/-! ### The launch element -/

theorem kcell_inj : Function.Injective (kcell : Dev nD × Option CK → GSem nD τ sig) := by
  rintro ⟨c, k⟩ ⟨c', k'⟩ h
  have h1 : c = c' := congrArg (fun g : GSem nD τ sig => g.1.1) h
  subst h1
  exact congrArg (Prod.mk c) (csem_inj (congrArg Prod.snd h))

/-- Every cell of the kernel. -/
def allCells : Finset (GSem nD τ sig) := Finset.univ.map ⟨kcell, kcell_inj⟩
/-- Their tokens. -/
def allToks : Finset (GSem nD τ sig × ℕ × ℕ) :=
  ((Finset.univ : Finset (Dev nD × Option CK)) ×ˢ (Finset.range 5 ×ˢ Finset.range 12)).map
    ⟨fun x => (kcell x.1, x.2), fun x y h => Prod.ext (kcell_inj (Prod.ext_iff.mp h).1) (Prod.ext_iff.mp h).2⟩

/-- The ghost state the launch makes. -/
def u₀ : UU :=
  (initOf (Pipeline.cells cfgs cellOf_inj) (Pipeline.launchToks cfgs cellOf_inj), (initOf allCells allToks, initSlots Finset.univ 5))

/-- Device `c`'s part of it. -/
def G (c : Dev nD) : sProp 𝕄 :=
  iprop((bigSep Finset.univ fun k : Option CK => roundState (ER (F := F)) (Rd X W) (kcell (c, k)) 0)
    ∗ (bigSep Finset.univ fun k : Option CK => reached (ER (F := F)) (kcell (c, k)) 0)
    ∗ (bigSep Finset.univ fun x : Fin 4 × Fin 3 ⊕ Fin 16 => iprop(∃ κ : ℕ, slotInv (EK (F := F)) κ (c, x) (keyPlace (c, x))))
    ∗ Poss (F := F) c (fun _ => 0) ∗ Rdrs (F := F) c 0 ∗ Minted (F := F) c)

theorem fund_ring : (ownU u₀ : sProp 𝕄)
    ⊢ |={Set.univ}=> iprop(BI.own (EP (F := F) (initOf (Pipeline.cells cfgs cellOf_inj) (Pipeline.launchToks cfgs cellOf_inj))) ∗ bigSep Finset.univ (G X W)) := by
  have hX (Φ : GSem nD τ sig → sProp 𝕄) : bigSep allCells Φ = bigSep Finset.univ fun c : Dev nD => bigSep Finset.univ fun k : Option CK => Φ (kcell (c, k)) := by
    unfold allCells; rw [bigSep_map, bigSep_univ_prod]; rfl
  have hT : bigSep allToks (fun x => dutyTok (ER (F := F)) x.1 x.2.1 x.2.2)
      = bigSep Finset.univ fun c : Dev nD => bigSep Finset.univ fun k : Option CK => bigSep (Finset.range 5) fun r => bigSep (Finset.range 12) fun d =>
        dutyTok (ER (F := F)) ((c : Thread nD τ), csem k) r d := by
    unfold allToks; rw [bigSep_map, bigSep_box, bigSep_univ_prod]
    exact bigSep_congr fun c _ => bigSep_congr fun k _ => bigSep_box _ _ _
  have hK (Φ : RK → sProp 𝕄) : bigSep Finset.univ Φ = bigSep Finset.univ fun c : Dev nD => bigSep Finset.univ fun x : Fin 4 × Fin 3 ⊕ Fin 16 => Φ (c, x) := by
    rw [bigSep_univ_prod]
  have hW : bigSep ((Finset.univ : Finset RK) ×ˢ Finset.range 5) (fun x => writeTok (EK (F := F)) x.1 (x.2 + 1))
      = bigSep Finset.univ fun c : Dev nD => bigSep Finset.univ fun x : Fin 4 × Fin 3 ⊕ Fin 16 => bigSep (Finset.range 5) fun t => writeTok (EK (F := F)) (c, x) (t + 1) := by
    rw [bigSep_box, hK]
  have hS (ιs : RK → ℕ) : (bigSep Finset.univ fun k : RK => slotInv (EK (F := F)) (ιs k) k (keyPlace k))
      ⊢ bigSep Finset.univ fun k : RK => iprop(∃ κ : ℕ, slotInv (EK (F := F)) κ k (keyPlace k)) := by
    refine bigSep_mono fun k _ => ?_
    exact Idealize.SL.BI.Laws.exists_intro (Φ := fun κ : ℕ => slotInv (EK (F := F)) κ k (keyPlace k)) (ιs k)
  unfold u₀
  iintro Hu
  ihave H := (ownU_pair _ _) $$ Hu
  icases H with ⟨HP, HX⟩
  ihave HX := (own_pair_emb embR _ _) $$ HX
  icases HX with ⟨HX, HK⟩
  imod (Rounds.fund (ER (F := F)) (Rd X W) allCells allToks) $$ HX with ⟨Hst, Hr, Hat, Htok⟩
  imod (slots_init (E := EK (F := F)) (Es := Set.univ) Finset.univ 5 keyPlace) $$ HK with ⟨%ιs, -, Hsl, Hrd, Hw⟩
  imodintro
  isplitl [HP]; · iexact HP
  ihave Hst := (Entails.of_eq (hX fun g => roundState (ER (F := F)) (Rd X W) g 0)) $$ Hst
  ihave Hr := (Entails.of_eq (hX fun g => reached (ER (F := F)) g 0)) $$ Hr
  ihave Hat := (Entails.of_eq (hX fun g => atPos (ER (F := F)) g 0 ∅ 0)) $$ Hat
  ihave Htok := (Entails.of_eq hT) $$ Htok
  ihave Hsl := (hS ιs) $$ Hsl
  ihave Hsl := (Entails.of_eq (hK _)) $$ Hsl
  ihave Hrd := (Entails.of_eq (hK _)) $$ Hrd
  ihave Hw := (Entails.of_eq hW) $$ Hw
  unfold G Poss Rdrs Minted
  simp only [bigSep_sep']
  isplitl [Hst]; · iexact Hst
  isplitl [Hr]; · iexact Hr
  isplitl [Hsl]; · iexact Hsl
  isplitl [Hat]; · iexact Hat
  isplitl [Hrd]; · iexact Hrd
  isplitl [Htok]; · iexact Htok
  iexact Hw

/-! ### The allocation -/

/-- What every device knows, the levels apart. -/
def recs0 (KN : Dev nD × Option CK → ℕ) (KS : RK → ℕ) : sProp 𝕄 :=
  iprop(bigSep Finset.univ (fun x : Dev nD × Option CK => cellInv (ER (F := F)) (Rd X W) (KN x) (kcell x))
    ∗ bigSep Finset.univ (fun x : Dev nD × Option CK => reached (ER (F := F)) (kcell x) 0)
    ∗ bigSep Finset.univ (fun k : RK => slotInv (EK (F := F)) (KS k) k (keyPlace k)))
instance recs0_pers (KN : Dev nD × Option CK → ℕ) (KS : RK → ℕ) : BI.Persistent (recs0 (F := F) X W KN KS) := by unfold recs0; infer_instance

/-- What the allocation leaves device `c`. -/
def G' (c : Dev nD) : sProp 𝕄 :=
  iprop(∃ (KN : Dev nD × Option CK → ℕ) (KS : RK → ℕ), recs0 X W KN KS ∗ Poss (F := F) c (fun _ => 0) ∗ Rdrs (F := F) c 0 ∗ Pays (F := F) c)

theorem ownSemFacts : Pipeline.OwnSemFacts cfg0.spec osem := by decide +kernel

omit [FloatOps F] in
theorem unscopedSems0_eq (c : Dev nD) : (unscopedSems0 c : sProp 𝕄) = semVal ((c : Thread nD τ), csem none) 0 := by
  unfold unscopedSems0; rw [bigSep_eq_bigSepL_of_eq [csem none] (by decide +kernel) (by decide)]; rfl

omit [FloatOps F] in
/-- The counters of device `c`'s cells: the kernel's own and the barrier's. -/
theorem sems0_eq (c : Dev nD) :
    (bigSep Finset.univ fun k : Option CK => semVal ((c : Thread nD τ), csem k) 0 : sProp 𝕄)
      = iprop(unscopedSems0 c ∗ Pipeline.ownSems0 (Ix := ℕ) (Name := ℕ) (U := UU) (Lvl := ℕ) (Val := Elt F) (τ := τ) osem c) := by
  rw [bigSep_opt, unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G X W c)
      ⊢ |={Set.univ}=> iprop((bigSep Finset.univ fun k : Option CK => iprop(∃ κ : ℕ, cellInv (ER (F := F)) (Rd X W) κ (kcell (c, k))))
          ∗ (bigSep Finset.univ fun k : Option CK => reached (ER (F := F)) (kcell (c, k)) 0)
          ∗ (bigSep Finset.univ fun x : Fin 4 × Fin 3 ⊕ Fin 16 => iprop(∃ κ : ℕ, slotInv (EK (F := F)) κ (c, x) (keyPlace (c, x))))
          ∗ Poss (F := F) c (fun _ => 0) ∗ Rdrs (F := F) c 0 ∗ Own (F := F) c) := by
  have hinv : iprop((bigSep Finset.univ fun k : Option CK => semVal ((c : Thread nD τ), csem k) 0)
        ∗ bigSep Finset.univ fun k : Option CK => roundState (ER (F := F)) (Rd X W) (kcell (c, k)) 0)
      ⊢ (|={Set.univ}=> bigSep Finset.univ fun k : Option CK => iprop(∃ κ : ℕ, cellInv (ER (F := F)) (Rd X W) κ (kcell (c, k))) : sProp 𝕄) := by
    rw [← bigSep_sep']
    exact (bigSep_mono fun k _ => (Rounds.body_intro (ER (F := F)) (Rd X W) (kcell (c, k))).trans inv_alloc).trans (bigSep_fupd _ _)
  unfold G
  iintro ⟨Hos, Hus, Hst, Hr, Hsl, Hat, Hrd, Hm⟩
  imod hinv $$ [Hos Hus Hst] with Hinv
  · isplitr [Hst]
    · rw [sems0_eq]
      isplitl [Hus]; · iexact Hus
      iexact Hos
    iexact Hst
  imodintro
  isplitl [Hinv]; · iexact Hinv
  isplitl [Hr]; · iexact Hr
  isplitl [Hsl]; · iexact Hsl
  isplitl [Hat]; · iexact Hat
  isplitl [Hrd]; · iexact Hrd
  iapply (own_of c); iexact Hm

theorem G'_intro (KN : Dev nD × Option CK → ℕ) (KS : RK → ℕ) (c : Dev nD) :
    iprop(recs0 X W KN KS ∗ Poss (F := F) c (fun _ => 0) ∗ Rdrs (F := F) c 0 ∗ Pays (F := F) c) ⊢ G' X W c := by
  unfold G'
  iintro H; iexists KN; iexists KS; iexact H

theorem regroup :
    (bigSep Finset.univ fun c : Dev nD => iprop((bigSep Finset.univ fun k : Option CK => iprop(∃ κ : ℕ, cellInv (ER (F := F)) (Rd X W) κ (kcell (c, k))))
          ∗ (bigSep Finset.univ fun k : Option CK => reached (ER (F := F)) (kcell (c, k)) 0)
          ∗ (bigSep Finset.univ fun x : Fin 4 × Fin 3 ⊕ Fin 16 => iprop(∃ κ : ℕ, slotInv (EK (F := F)) κ (c, x) (keyPlace (c, x))))
          ∗ Poss (F := F) c (fun _ => 0) ∗ Rdrs (F := F) c 0 ∗ Own (F := F) c) : sProp 𝕄)
      ⊢ bigSep Finset.univ (G' X W) := by
  rw [bigSep_sep', bigSep_sep', bigSep_sep', bigSep_sep', bigSep_sep', pays_eq,
    ← bigSep_univ_prod (fun x : Dev nD × Option CK => iprop(∃ κ : ℕ, cellInv (ER (F := F)) (Rd X W) κ (kcell x))),
    ← bigSep_univ_prod (fun x : Dev nD × Option CK => reached (ER (F := F)) (kcell x) 0),
    ← bigSep_univ_prod (fun x : RK => iprop(∃ κ : ℕ, slotInv (EK (F := F)) κ x (keyPlace x)))]
  iintro ⟨HI, #HR, HS, Hat, Hrd, Hp⟩
  ihave HI := (BI.bigSep_exists_pi Finset.univ (fun (x : Dev nD × Option CK) (κ : ℕ) => cellInv (ER (F := F)) (Rd X W) κ (kcell x))) $$ HI
  ihave HS := (BI.bigSep_exists_pi Finset.univ (fun (x : RK) (κ : ℕ) => slotInv (EK (F := F)) κ x (keyPlace x))) $$ HS
  icases HI with ⟨%KN, #HI⟩
  icases HS with ⟨%KS, #HS⟩
  iapply (bigSep_with_persistent (R := recs0 X W KN KS) fun c _ => G'_intro X W KN KS c)
  isplitr
  · unfold recs0
    isplitr; · iexact HI
    isplitr; · iexact HR
    iexact HS
  rw [bigSep_sep', bigSep_sep']
  isplitl [Hat]; · iexact Hat
  isplitl [Hrd]; · iexact Hrd
  iexact Hp

/-- Every device's cells are allocated at once, and the tokens dealt. -/
theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

end Cert.KernelIdeal.Ring

end
-- ==== Proof.Run.lean ====
/-
# The run of the kernel

The launch of the one call: the arguments are fetched into the staging buffers, the body runs on every device, and the
output block is flushed to the result.
-/
module

public import proofs.«01_k».proof.Proof.Ghost
public import Idealize.ShloMosaic.Lib.Pipeline.CollectiveSegs

@[expose] public section

set_option maxRecDepth 10000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Release (USlots slotInv readerAt released writeTok initSlots slots_init)

variable {F : FTy → Type} [FloatOps F]

local notation "𝕄" => MT nD τ sig ℕ (Elt F) ℕ UU ℕ

variable (m : (ℓ : Loc nD τ sig) → Buf (Elt F) ℓ) (ρ : Dev nD → PrngReg)

/-- The state the run starts from. -/
abbrev s₀ : MemSt nD τ sig (Elt F) := ⟨m, fun _ => 0, ρ⟩
/-- Device `c`'s `x`, as fetched. -/
def xstg (c : Dev nD) : (cc0_stg0_0 : Ref sig .tc).ty.Contents (Elt F) := (win0_0.blk (0 : Fin 1)).view.read (Elt F) (m ((c : Thread nD τ).loc main_arg0))
/-- Device `c`'s `w`, as fetched. -/
def wstg (c : Dev nD) : (cc0_stg1_0 : Ref sig .tc).ty.Contents (Elt F) := (win0_1.blk (0 : Fin 1)).view.read (Elt F) (m ((c : Thread nD τ).loc main_arg1))

/-- What device `c`'s body starts from. -/
def start (c : Dev nD) : sProp 𝕄 :=
  iprop(∃ (KN : Dev nD × Option CK → ℕ) (KS : RK → ℕ), recs (xstg m) (wstg m) KN KS ∗ Poss (F := F) c (fun _ => 0) ∗ Rdrs (F := F) c 0 ∗ Toks (F := F) c)
def Φ₀ (c : Dev nD) : sProp 𝕄 := iprop(start m c ∗ scratch (F := F) c)
/-- After the body: the cells closed, the buffers whole. -/
def Φ₁ (c : Dev nD) : sProp 𝕄 := iprop((bigSep Finset.univ fun k : Option CK => semVal ((c : Thread nD τ), csem k) 0) ∗ scratch (F := F) c)

/-- The launch's data. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outF (xstg m) (wstg m) c
  Φ t := match t with
    | ⟨0, _⟩ => Φ₀ m c
    | ⟨_ + 1, _⟩ => Φ₁ c
  q _ := fullShare
  owed t := match t with
    | ⟨0, _⟩ => owe0 c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-! ### The body -/

/-- A staging buffer whole. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt 0 t0_0.succ ∗ stg c cc0_stg0_0 (xstg m c) ∗ stg c cc0_stg1_0 (wstg m c)
    ∗ stg c cc0_stg2_0 (outF (xstg m) (wstg m) c))

/-- The printed body on device `c`. -/
abbrev printed : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12 cc0_scratch13
    cc0_scratch14 cc0_scratch15 cc0_scratch16 cc0_scratch17 cc0_scratch18 cc0_scratch19 cc0_scratch20 cc0_scratch21 cc0_scratch22 cc0_scratch23

theorem printed_eq : printed (F := F) = bodyC (Memref.whole cc0_stg0_0) (Memref.whole cc0_stg1_0) om := by
  unfold printed; rw [cc0_body_eq_skeleton]; exact body_eq _ _ _ _ _ _

theorem sound_printed (c : Dev nD) : bodyPre m ρ c ⊢ WP c (printed (F := F)) (fun _ => bodyPost m ρ c) := by
  rw [printed_eq]
  unfold bodyC WP
  simp only [wp_deviceId]
  unfold bodyPre Φ₀ start
  iintro ⟨⟨⟨%KN, %KS, #HR, HP, HD, HT⟩, Hs⟩, Ho, ⟨%d0, %g0, %hg0, Hx⟩, ⟨%d1, %g1, %hg1, Hw⟩, ⟨%d2, %g2, -, Hout⟩⟩
  have hx : g0 = xstg m c := by rw [hg0]; unfold Dat.before; rw [if_pos (fetch_0 t0_0)]; rfl
  have hw : g1 = wstg m c := by rw [hg1]; unfold Dat.before; rw [if_pos (fetch_1 t0_0)]; rfl
  subst hx hw
  unfold Dat.owesAt Pipeline.owesWithin
  icases Ho with ⟨%Ws, -, HO⟩
  rw [show (dats m ρ 0 c).owed t0_0.castSucc = owe0 c from rfl]
  iapply (body_sound (xstg m) (wstg m) KN KS c fun _ => bodyPost m ρ c) $$ [HP HD HT Hs Hx Hw Hout HO]
  · isplitr; · iexact HR
    unfold BodyIn
    isplitl [HP]; · iexact HP
    isplitl [HD]; · iexact HD
    isplitl [HT]; · iexact HT
    isplitl [Hs]; · iexact Hs
    isplitl [Hx Hw]
    · unfold ins
      isplitl [Hx]; · iexact Hx
      iexact Hw
    isplitl [Hout]
    · unfold buf
      iexists g2; iexact Hout
    unfold OW
    iexists Ws; iexact HO
  unfold BodyOut ins OW
  iintro ⟨HZ, Hs, ⟨Hx, Hw⟩, Hout, ⟨%Ws', HO⟩⟩
  unfold bodyPost Φ₁ Dat.owesAt Pipeline.owesWithin
  rw [show (dats m ρ 0 c).owed t0_0.succ = 0 from rfl]
  isplitl [HZ Hs]
  · isplitl [HZ]; · iexact HZ
    iexact Hs
  isplitl [HO]
  · iexists Ws'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 100000 in
/-- The body, as the launch asks for it. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact sound_printed m ρ c

/-! ### The launch -/

theorem share_eq (c : Dev nD) (w : Fin cfg0.W) : (dats m ρ 0 c).share w = fullShare := by unfold Dat.share; split <;> rfl

theorem above_owe0 (c : Dev nD) : Above 0 (owe0 c) := by
  rw [owe0_eq]
  exact (((Above.sum _ _ fun ℓ _ => Above.sum _ _ fun i hi => Above.tally _ (some (.rcv ℓ (slot i))) _ (by have := Finset.mem_Ico.mp hi; omega) (show 0 < 2 * i + 2 by omega)).add
    (Above.sum _ _ fun ℓ _ => Above.sum _ _ fun n hn => Above.tally _ (some (.crd ℓ)) _ (by have := Finset.mem_Ico.mp hn; omega) (show 0 < 2 * n + 3 by omega))).add
    (Above.sum _ _ fun i _ => Above.tally _ (some (.arc _)) _ (by decide) (show 0 < 1000 by decide))).add
    ((Above.tally _ none _ (by decide) (by decide)).add (Above.tally _ none _ (by decide) (by decide)))

/-- A semaphore that is no cell of the kernel. -/
theorem kindOf_none (sm : SemLoc sig) (h : ∀ k, csem k ≠ sm) : kindOf sm = none := dif_neg fun ⟨k, hk⟩ => h k hk

omit [FloatOps F] in
theorem mayWait_stage (c : Dev nD) (sm : SemLoc sig) (hk : kindOf sm = none) (O : CellTallies nD τ sig ℕ) (hO : Above 0 O) :
    (levAts L lv : sProp 𝕄) ⊢ MayWait (c : Thread nD τ) sm 0 O :=
  MayOwe.of_cut (L := L) (lev := lv) 0 (fun p hp => by rw [Finset.mem_singleton.mp hp, L_tc]; exact Finset.mem_range.mpr (show 0 < 16 by decide))
    (fun g u hg => (hO g u hg).1) (fun p hp => by rw [Finset.mem_singleton.mp hp]; dsimp only [lv]; rw [hk]) (fun g u hg => (hO g u hg).2)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (kindOf_none _ (by fin_cases w <;> fin_cases s <;> decide +kernel)) _ (by
      rcases t with ⟨_ | _, ht⟩
      · exact above_owe0 c
      · exact Above.zero 0)

theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ G' (xstg m) (wstg m) c)
      ⊢ |={Set.univ}=> iprop(start m c ∗ emp) := by
  rw [creds]
  unfold G' recs0
  iintro ⟨-, #Hlev, Hcr, -, ⟨%KN, %KS, ⟨#HI, #HR, #HS⟩, HP, HD, HT⟩⟩
  imodintro
  isplitl
  · unfold start
    iexists KN; iexists KS
    isplitr
    · unfold recs
      isplitr; · iexact HI
      isplitr; · iexact HR
      isplitr; · iexact HS
      iexact Hlev
    isplitl [HP]; · iexact HP
    isplitl [HD]; · iexact HD
    iapply (toks_of c)
    isplitl [HT]; · iexact HT
    iexact Hcr
  · iempintro

omit [FloatOps F] in
/-- The kernel's own buffers. -/
theorem scratch_eq (c : Dev nD) : (Pipeline.scopedRest cfg0.spec c : sProp 𝕄) ⊣⊢ scratch (F := F) c := by
  rw [scopedRest0_eq]
  unfold scratch buf
  rw [bigSep_fin4, bigSep_fin4]
  constructor
  · iintro ⟨H0, H1, H2, H3, H4, H5, H6, H7, H8, H9⟩
    isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    isplitl [H8]; · iexact H8
    iexact H9
  · iintro ⟨⟨H0, H1, H2, H3⟩, ⟨H4, H5, H6, H7⟩, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq c).1; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems0_eq]
  iintro ⟨⟨HU, HO⟩, Hr⟩
  isplitl [HU]; · iexact HU
  isplitl [HO]; · iexact HO
  iapply (scratch_eq c).2; iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, for any float values, every weakly fair execution on the sixteen devices
    terminates, with the arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := G (xstg m) (wstg m)) (G' := G' (xstg m) (wstg m)) (u₀ := u₀)
    (hu₀ := fund_ring (xstg m) (wstg m))
    (hglob := glob (xstg m) (wstg m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

omit [FloatOps F] in
/-- The fetched blocks are the arguments, whole. -/
theorem xstg_eq (c : Dev nD) : xstg m c = m ((c : Thread nD τ).loc main_arg0) :=
  Memref.read_access_unit_zero (Elt F) main_arg0 (funext fun a => by fin_cases a <;> decide) (fun a => by fin_cases a <;> decide) _
omit [FloatOps F] in
theorem wstg_eq (c : Dev nD) : wstg m c = m ((c : Thread nD τ).loc main_arg1) :=
  Memref.read_access_unit_zero (Elt F) main_arg1 (funext fun a => by fin_cases a <;> decide) (fun a => by fin_cases a <;> decide) _

/-- The result ends holding what the body left in the output buffer. -/
theorem finalA_o (c : Dev nD) : finalA m ρ c (2 : Fin 3) = outF (fun d => m ((d : Thread nD τ).loc main_arg0)) (fun d => m ((d : Thread nD τ).loc main_arg1)) c := by
  have h : (win0_2.blk (0 : Fin 1)).view.read (Elt F) (finalA m ρ c (2 : Fin 3)) = outF (xstg m) (wstg m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [funext (xstg_eq m), funext (wstg_eq m)] at h
  rw [← h]
  exact (Memref.read_access_unit_zero (Elt F) main_v1 (funext fun a => by fin_cases a <;> decide) (fun a => by fin_cases a <;> decide) _).symm

/-- The run, read at the arrays. -/
theorem run_kernel : θ_run defs (onTc (τ := τ) (main (F := F))) (s₀ m ρ) fun r =>
    ((∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0)
      ∧ ∀ c : Dev nD, r.2.mem ((c.tc : Thread nD τ).loc main_v1)
          = outF (fun d => m ((d : Thread nD τ).loc main_arg0)) (fun d => m ((d : Thread nD τ).loc main_arg1)) c :=
  (θ_run defs _ _).mono (fun r h => ⟨⟨fun c => ⟨(h.1 c (0 : Fin 3)).trans (finalA_x m ρ c), (h.1 c (1 : Fin 3)).trans (finalA_w m ρ c)⟩, h.2⟩,
    fun c => (h.1 c (2 : Fin 3)).trans (finalA_o m ρ c)⟩) (run_main m ρ)

end Cert.KernelIdeal.Ring

end
-- ==== Proof.Value.lean ====
/-
# The kernel's value over the reals

Over the reals a change of float format is the identity and sums may be taken in any order. So the sum that a lane has
collected after sixteen rounds is an entry of the whole product (`acc_eq`), the values that the devices exchange have the
whole product's largest absolute value as their maximum (`amAll_le`), and the quantisation of a device's block is the
reference's, entry by entry (`outF_eq`).
-/
module

public import proofs.«01_k».proof.Defs
public import proofs.«01_k».proof.Proof.Run
public import proofs.«01_k».proof.Proof.Gen.ReferenceIdeal
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.PureOps.Reduce
public import Idealize.ShloMosaic.PureOps.Ideal.Laws

@[expose] public section

set_option maxRecDepth 10000

noncomputable section

namespace Cert.KernelIdeal.Ring

open Cert.KernelIdeal Cert.KernelIdeal.Gen
open Idealize.ShloMosaic Idealize.ShloMosaic.TcCoe
open Cert.ReferenceIdeal (S4096x4096 S4096x2048)
open Idealize.SL.Sem
open scoped BigOperators

/-! ### Rows and columns of the whole -/

set_option backward.proofsInPublic true in
/-- Position `k` of block `d`, among all 4096. -/
def at16 (d : Fin 16) (k : Fin 256) : Fin 4096 := ⟨d.val * 256 + k.val, by omega⟩
set_option backward.proofsInPublic true in
/-- Column `q` of lane `ℓ`, among all 2048. -/
def colAt (ℓ : Fin 4) (q : Fin 512) : Fin 2048 :=
  ⟨col ℓ + q.val, by have h : col ℓ ≤ 1536 := by revert ℓ; decide
                     omega⟩

/-- Every position lies in a block. -/
theorem at16_surj (a : Fin 4096) : ∃ d k, at16 d k = a :=
  ⟨⟨a.val / 256, by omega⟩, ⟨a.val % 256, by omega⟩, Fin.ext (by show a.val / 256 * 256 + a.val % 256 = a.val; omega)⟩

/-- Column `b` is a column of its lane. -/
theorem colAt_laneOf (b : Fin 2048) : colAt (laneOf b.val) ⟨b.val % 512, Nat.mod_lt _ (by decide)⟩ = b := by
  apply Fin.ext
  show col (laneOf b.val) + b.val % 512 = b.val
  have hb := b.isLt
  unfold laneOf
  split_ifs <;> simp only [col] <;> omega

/-- An index of a matrix is a row and a column. -/
theorem ix2_all {n k : ℕ} (i : (⟨2, ![n, k]⟩ : Shape).Idx) : ∃ (a : Fin n) (b : Fin k), i = ix2 a b := ⟨i 0, i 1, eq_ix2 i⟩

/-- A sum over all positions, block by block. -/
theorem sum_at16 (f : Fin 4096 → EReal) : ∑ j, f j = ∑ d : Fin 16, ∑ k : Fin 256, f (at16 d k) := by
  rw [← Fintype.sum_prod_type' (fun d k => f (at16 d k))]
  refine (Fintype.sum_bijective (fun p : Fin 16 × Fin 256 => at16 p.1 p.2) ⟨?_, ?_⟩ _ _ fun _ => rfl).symm
  · rintro ⟨d, k⟩ ⟨d', k'⟩ h
    have h' : d.val * 256 + k.val = d'.val * 256 + k'.val := congrArg Fin.val h
    have h1 : d = d' := Fin.ext (by omega)
    have h2 : k = k' := Fin.ext (by omega)
    rw [h1, h2]
  · intro a
    obtain ⟨d, k, h⟩ := at16_surj a
    exact ⟨(d, k), h⟩

/-! ### The rings' sums -/

set_option backward.proofsInPublic true in
/-- The block of rows that device `c` multiplies on lane `ℓ` in round `s`. -/
def blk (c : Fin 16) (ℓ : Fin 4) (s : ℕ) : Fin 16 :=
  if ℓ.val % 2 = 0 then ⟨(c.val + 31 - s) % 16, Nat.mod_lt _ (by decide)⟩ else ⟨(c.val + s + 1) % 16, Nat.mod_lt _ (by decide)⟩

/-- The sum that goes on to the next device is of the rows that the next device multiplies in the next round; -/
theorem blk_src : ∀ (c : Fin 16) (ℓ : Fin 4) (s : Fin 15), blk (src c ℓ) ℓ s.val = blk c ℓ (s.val + 1) := by decide +kernel
/-- in the last round they are the device's own. -/
theorem blk_last : ∀ (c : Fin 16) (ℓ : Fin 4), blk c ℓ 15 = c := by decide +kernel
/-- In sixteen rounds a ring goes through every device once. -/
theorem src_bij : ∀ (c : Fin 16) (ℓ : Fin 4), Function.Bijective fun t : Fin 16 => (fun d : Fin 16 => src d ℓ)^[t.val] c := by
  decide +kernel

variable (A : FVec Ideal S4096x4096 .f32) (B : FVec Ideal S4096x2048 .f32)

/-- What device `c` holds of the left factor: a block of its columns. -/
abbrev XA (c : Dev nD) : FVec Ideal S4096x256 .f32 := Layout.block ⟨2, ![4096, 256]⟩ ⟨2, ![4096, 4096]⟩ 1 16 c A
/-- What device `c` holds of the right factor: a block of its rows. -/
abbrev WB (c : Dev nD) : FVec Ideal S256x2048 .f32 := Layout.block ⟨2, ![256, 2048]⟩ ⟨2, ![4096, 2048]⟩ 0 16 c B

/-- The rows a device reads, as entries of the left factor. -/
theorem xrow_apply (c : Dev nD) (ℓ : Fin 4) (s : Fin 16) (r k : Fin 256) :
    xrow (F := Ideal) (XA A) c ℓ s.val (ix2 r k) = A (ix2 (at16 (blk c ℓ s.val) r) (at16 c k)) := by
  have hs : Fin.ofNat 16 s.val = s := Fin.ext (Nat.mod_eq_of_lt s.isLt)
  have h1 := k0_off1_eq c s
  have h2 := k0_off2_eq c s
  unfold xrow blk
  rw [hs]
  split_ifs with h
  · show A _ = A _
    congr 1
    funext a; apply Fin.ext
    match a with
    | ⟨0, _⟩ =>
      show k0_off1 c (BitVec.ofNat 32 s.val) 0 + 1 * r.val = (c.val + 31 - s.val) % 16 * 256 + r.val
      rw [h1]
      show 256 * ((c.val + 31 - s.val) % 16) + 1 * r.val = _
      omega
    | ⟨1, _⟩ =>
      show c.val * 256 + (k0_off1 c (BitVec.ofNat 32 s.val) 1 + 1 * k.val) = c.val * 256 + k.val
      rw [h1]
      show c.val * 256 + (0 + 1 * k.val) = _
      omega
  · show A _ = A _
    congr 1
    funext a; apply Fin.ext
    match a with
    | ⟨0, _⟩ =>
      show k0_off2 c (BitVec.ofNat 32 s.val) 0 + 1 * r.val = (c.val + s.val + 1) % 16 * 256 + r.val
      rw [h2]
      show 256 * ((c.val + s.val + 1) % 16) + 1 * r.val = _
      omega
    | ⟨1, _⟩ =>
      show c.val * 256 + (k0_off2 c (BitVec.ofNat 32 s.val) 1 + 1 * k.val) = c.val * 256 + k.val
      rw [h2]
      show c.val * 256 + (0 + 1 * k.val) = _
      omega

/-- The columns a device reads, as entries of the right factor. -/
theorem wcol_apply (c : Dev nD) (ℓ : Fin 4) (k : Fin 256) (q : Fin 512) :
    wcol (F := Ideal) (WB B) c ℓ (ix2 k q) = B (ix2 (at16 c k) (colAt ℓ q)) := by
  unfold wcol
  show B _ = B _
  congr 1
  funext a; apply Fin.ext
  match a with
  | ⟨0, _⟩ => show c.val * 256 + (0 + 1 * k.val) = c.val * 256 + k.val; omega
  | ⟨1, _⟩ => show col ℓ + 1 * q.val = col ℓ + q.val; omega

/-- Device `d`'s part of an entry of the product. -/
def part (R : Fin 16) (r : Fin 256) (b : Fin 2048) (d : Fin 16) : EReal :=
  ∑ k : Fin 256, A (ix2 (at16 R r) (at16 d k)) * B (ix2 (at16 d k) b)

/-- A device's product of one round. -/
theorem prodV_apply (c : Dev nD) (ℓ : Fin 4) (s : Fin 16) (r : Fin 256) (q : Fin 512) :
    prodV (F := Ideal) (xrow (F := Ideal) (XA A) c ℓ s.val) (wcol (F := Ideal) (WB B) c ℓ) (ix2 r q) = part A B (blk c ℓ s.val) r (colAt ℓ q) c := by
  unfold prodV part
  rw [shapeCast_self, shapeCast_self]
  have h := Ideal.matmul_plain_apply (φ₁ := .f32) (φ₂ := .f32) none (xrow (F := Ideal) (XA A) c ℓ s.val : FVec Ideal ⟨2, ![256, 256]⟩ .f32)
    (wcol (F := Ideal) (WB B) c ℓ : FVec Ideal ⟨2, ![256, 512]⟩ .f32) (constant S256x512 .f32 0x00000000#32) r q
  have h0 : (constant S256x512 .f32 0x00000000#32 : FVec Ideal S256x512 .f32) (ix2 r q) = (0 : EReal) := by
    show Ideal.ofBits .f32 0x00000000#32 = 0
    simp [Ideal.ofBits, Ideal.ieee]
  refine (h.trans (congrArg₂ (· + ·) h0 (Finset.sum_congr rfl fun k _ => ?_))).trans (zero_add _)
  exact congrArg₂ (· * ·) (xrow_apply A c ℓ s r k) (wcol_apply B c ℓ k q)

/-- A lane's sum in round `s`: the parts of the devices it has passed. -/
theorem acc_sum (ℓ : Fin 4) (r : Fin 256) (q : Fin 512) (R : Fin 16) : ∀ (s : ℕ) (c : Dev nD), s < 16 → blk c ℓ s = R →
    acc (F := Ideal) (XA A) (WB B) ℓ s c (ix2 r q) = ∑ t ∈ Finset.range (s + 1), part A B R r (colAt ℓ q) ((fun d : Fin 16 => src d ℓ)^[t] c)
  | 0, c, _, hR => by
    rw [Finset.sum_range_one]
    exact (prodV_apply A B c ℓ 0 r q).trans (by rw [← hR]; rfl)
  | s + 1, c, hs, hR => by
    rw [Finset.sum_range_succ', add_comm (Finset.sum _ _)]
    have ih := acc_sum ℓ r q R s (src c ℓ) (by omega) ((blk_src c ℓ ⟨s, by omega⟩).trans hR)
    have hp := prodV_apply A B c ℓ ⟨s + 1, hs⟩ r q
    show prodV (F := Ideal) (xrow (F := Ideal) (XA A) c ℓ (s + 1)) (wcol (F := Ideal) (WB B) c ℓ) (ix2 r q)
      + acc (F := Ideal) (XA A) (WB B) ℓ s (src c ℓ) (ix2 r q) = _
    rw [ih, hp]
    show part A B (blk c ℓ (s + 1)) r (colAt ℓ q) c + _ = _
    rw [hR]
    rfl

/-- The whole product. -/
abbrev yAll : FVec Ideal S4096x2048 .f32 :=
  Host.dotGeneral Cert.ReferenceIdeal.dot_S4096x4096_S4096x2048_S4096x2048_1_0_0_1_n_n none A B

/-- A lane's sum of the last round is the whole product's entries in the device's rows and the lane's columns. -/
theorem acc_eq (c : Dev nD) (ℓ : Fin 4) (r : Fin 256) (q : Fin 512) :
    acc (F := Ideal) (XA A) (WB B) ℓ 15 c (ix2 r q) = yAll A B (ix2 (at16 c r) (colAt ℓ q)) := by
  rw [acc_sum A B ℓ r q c 15 c (by decide) (blk_last c ℓ)]
  refine Eq.trans ?_ (StackMember.dotGeneral_plain_apply none A B (at16 c r) (colAt ℓ q)).symm
  rw [sum_at16, Finset.sum_range]
  exact Fintype.sum_bijective _ (src_bij c ℓ) _ _ fun _ => rfl

/-- The sums in their places: the device's rows of the product. -/
theorem outY_eq (c : Dev nD) (a : Fin 256) (b : Fin 2048) :
    outY (F := Ideal) (XA A) (WB B) c (ix2 a b) = yAll A B (ix2 (at16 c a) b) := by
  refine (acc_eq A B c (laneOf b.val) a ⟨b.val % 512, Nat.mod_lt _ (by decide)⟩).trans ?_
  rw [colAt_laneOf]

/-! ### The largest absolute value -/

/-- A real's absolute value, as both programs take it. -/
abbrev ab (x : EReal) : EReal := max x (-x)

/-- The starting value of a maximum is the least. -/
theorem negInf : (Ideal.ofBits .f32 0xFF800000#32 : EReal) = ⊥ := by simp [Ideal.ofBits, Ideal.ieee]

/-- A maximum over a whole vector, by its upper bounds. -/
theorem extractMax_le {s : Shape} {axes : List (Fin s.rank)} (x : FVec Ideal s .f32) (h : s.Reduces axes S1) (u : EReal) :
    (extractAt ![0, 0, 0] (shapeCast S1x1x1 (multiReduction .maximumf axes S1 x 0xFF800000#32 h (.inl rfl) rfl : FVec Ideal S1 .f32)
      shapeCasts_S1_S1x1x1 : FVec Ideal S1x1x1 .f32) inpos_S1x1x1_p0_0_0 : EReal) ≤ u ↔ ∀ i, (x i : EReal) ≤ u := by
  have hj : ∀ j : S1.Idx, (multiReduction .maximumf axes S1 x 0xFF800000#32 h (.inl rfl) rfl : FVec Ideal S1 .f32) j ≤ u ↔ ∀ i, (x i : EReal) ≤ u := by
    intro j
    refine (iff_of_eq (congrArg (· ≤ u) (multiReduction_maximumf_eq_fold x 0xFF800000#32 h (.inl rfl) rfl j))).trans ?_
    refine (Finset.fold_max_le (s := Finset.univ.filter fun i => h.drop i = j) (f := x) (b := (Ideal.ofBits .f32 0xFF800000#32 : EReal)) u).trans ?_
    rw [negInf]
    refine ⟨fun hh i => hh.2 i (Finset.mem_filter.2 ⟨Finset.mem_univ i, ?_⟩), fun hh => ⟨bot_le, fun i _ => hh i⟩⟩
    funext b; apply Fin.ext
    have hb : ∀ b : Fin S1.rank, S1.size b = 1 := by decide
    have h1 := (h.drop i b).isLt.trans_eq (hb b)
    have h2 := (j b).isLt.trans_eq (hb b)
    omega
  exact hj _

/-- A block's largest absolute value. -/
theorem absMaxV_le (v : FVec Ideal S256x512 .f32) (u : EReal) : (absMaxV v : EReal) ≤ u ↔ ∀ i, ab (v i) ≤ u := by
  unfold absMaxV
  rw [extractMax_le]
  refine ⟨fun h i => ?_, fun h i => h _⟩
  obtain ⟨j, hj⟩ := (Shape.reshapeEquiv shapeCasts_S256x512_S1x256x512).surjective i
  have := h j
  rw [← hj]
  exact this

/-- The largest of four. -/
theorem amaxV_le (a b c d : EReal) (i : S8x128.Idx) (u : EReal) :
    (amaxV (F := Ideal) a b c d i : EReal) ≤ u ↔ a ≤ u ∧ b ≤ u ∧ c ≤ u ∧ d ≤ u := by
  show max (max (max a b) c) d ≤ u ↔ _
  simp only [max_le_iff, and_assoc]

variable (X : Dev nD → (cc0_stg0_0 : Ref sig .tc).ty.Contents (Elt Ideal)) (W : Dev nD → (cc0_stg1_0 : Ref sig .tc).ty.Contents (Elt Ideal))

/-- A device's own value. -/
theorem amx_le (c : Dev nD) (i : S8x128.Idx) (u : EReal) :
    (amx (F := Ideal) X W c i : EReal) ≤ u ↔ ∀ ℓ j, ab (acc (F := Ideal) X W ℓ 15 c j) ≤ u := by
  unfold amx
  rw [amaxV_le]
  simp only [absMaxV_le, Fin.forall_fin_succ, Fin.forall_fin_zero_pi, IsEmpty.forall_iff, and_true]
  rfl

/-- Partners' values joined in. -/
theorem joinL_le (c : Dev nD) (i : S8x128.Idx) (u : EReal) : ∀ (l : List (Fin 16)) (a : FVec Ideal S8x128 .f32),
    (joinL (F := Ideal) X W c l a i : EReal) ≤ u ↔ (a i : EReal) ≤ u ∧ ∀ j ∈ l, (amx (F := Ideal) X W (par c j) i : EReal) ≤ u
  | [], a => by simp [joinL]
  | j :: l, a => by
    have ih := joinL_le c i u l (maximumf a (amx X W (par c j)))
    refine ih.trans ?_
    show max (a i : EReal) (amx (F := Ideal) X W (par c j) i) ≤ u ∧ _ ↔ _
    simp only [max_le_iff, List.forall_mem_cons, and_assoc]

/-- All of them: a bound on every sum of every device. -/
theorem amAll_le (c : Dev nD) (i : S8x128.Idx) (u : EReal) :
    (amAll (F := Ideal) X W c i : EReal) ≤ u ↔ ∀ d ℓ j, ab (acc (F := Ideal) X W ℓ 15 d j) ≤ u := by
  unfold amAll
  rw [joinL_le]
  simp only [amx_le]
  refine ⟨fun h d => ?_, fun h => ⟨h c, fun j _ => h (par c j)⟩⟩
  obtain ⟨j, rfl⟩ := par_surj c d
  by_cases hj : j = 0
  · subst hj; exact h.1
  · exact h.2 j (by revert j; decide)

/-- The reference's: a bound on every entry of the product. -/
theorem refMax_le (y : FVec Ideal S4096x2048 .f32) (j : S_.Idx) (u : EReal) :
    ((Host.reduce FloatOps.maximumf (Host.absf y) (constant S_ .f32 0xFF800000#32)
      Cert.ReferenceIdeal.Gen.reducesTo_S4096x2048_S_d0_1 Cert.ReferenceIdeal.Gen.h_S_ : FVec Ideal S_ .f32) j : EReal) ≤ u ↔ ∀ i, ab (y i) ≤ u := by
  rw [Host.reduce_eq_fold]
  refine (Finset.fold_max_le (s := Finset.univ.filter fun i => Cert.ReferenceIdeal.Gen.reducesTo_S4096x2048_S_d0_1.drop i = j) (f := Host.absf y)
    (b := (Ideal.ofBits .f32 0xFF800000#32 : EReal)) u).trans ?_
  rw [negInf]
  exact ⟨fun hh i => hh.2 i (Finset.mem_filter.2 ⟨Finset.mem_univ i, funext fun b => b.elim0⟩), fun hh => ⟨bot_le, fun i _ => hh i⟩⟩

/-! ### The quantisation -/

/-- An entry `v` quantised at the largest absolute value `M`. -/
def quant (M v : EReal) : EReal :=
  min (Ideal.ofBits .f32 0x42FE0000#32) (max (Ideal.ofBits .f32 0xC2FE0000#32)
    (Ideal.liftRound Ideal.roundHalfEven (Ideal.div v (Ideal.div M (Ideal.ofBits .f32 0x42FE0000#32)))))
    * Ideal.div M (Ideal.ofBits .f32 0x42FE0000#32)

/-- The largest absolute value that a device computes from the exchanged ones. -/
def kMax (v : FVec Ideal S8x128 .f32) : EReal :=
  extractAt ![0, 0, 0] (shapeCast S1x1x1 (multiReduction .maximumf [1, 2] S1 (k0_pay163 v) 0xFF800000#32 reduces_S1x8x128_S1 (.inl rfl) rfl : FVec Ideal S1 .f32)
    shapeCasts_S1_S1x1x1 : FVec Ideal S1x1x1 .f32) inpos_S1x1x1_p0_0_0

theorem kMax_le (v : FVec Ideal S8x128 .f32) (u : EReal) : kMax v ≤ u ↔ ∀ i, (v i : EReal) ≤ u := by
  unfold kMax
  rw [extractMax_le]
  refine ⟨fun h i => ?_, fun h i => h _⟩
  obtain ⟨j, hj⟩ := (Shape.reshapeEquiv shapeCasts_S8x128_S1x8x128).surjective i
  have := h j
  rw [← hj]
  exact this

/-- The kernel's quantisation at an entry. -/
theorem pay1_apply (v : FVec Ideal S8x128 .f32) (y : FVec Ideal S256x2048 .f32) (i : S256x2048.Idx) :
    (k0_pay1 (k0_pay163 v) y i : EReal) = quant (kMax v) (y i) := by
  unfold k0_pay1
  rw [shapeCast_self]
  rfl

/-- The reference's result. -/
abbrev refOut : FVec Ideal S4096x2048 .f32 :=
  let y := yAll A B
  let sc : FVec Ideal S_ .f32 := Host.divf (Host.reduce FloatOps.maximumf (Host.absf y) (constant S_ .f32 0xFF800000#32)
    Cert.ReferenceIdeal.Gen.reducesTo_S4096x2048_S_d0_1 Cert.ReferenceIdeal.Gen.h_S_) (constant S_ .f32 0x42FE0000#32)
  mulf (minimumf (broadcastInDim S4096x2048 ![] Cert.ReferenceIdeal.Gen.bcast_S_S4096x2048 (id (constant S_ .f32 0x42FE0000#32)))
    (maximumf (broadcastInDim S4096x2048 ![] Cert.ReferenceIdeal.Gen.bcast_S_S4096x2048 (id (constant S_ .f32 0xC2FE0000#32)))
      (Host.roundeven (Host.divf y (broadcastInDim S4096x2048 ![] Cert.ReferenceIdeal.Gen.bcast_S_S4096x2048 sc)))))
    (broadcastInDim S4096x2048 ![] Cert.ReferenceIdeal.Gen.bcast_S_S4096x2048 sc)

/-- The reference's largest absolute value. -/
def refMax : EReal :=
  (Host.reduce FloatOps.maximumf (Host.absf (yAll A B)) (constant S_ .f32 0xFF800000#32)
    Cert.ReferenceIdeal.Gen.reducesTo_S4096x2048_S_d0_1 Cert.ReferenceIdeal.Gen.h_S_ : FVec Ideal S_ .f32) (fun b => b.elim0)

/-- The reference's quantisation at an entry. -/
theorem refOut_apply (i : S4096x2048.Idx) : (refOut A B i : EReal) = quant (refMax A B) (yAll A B i) := by
  have hj : ∀ j : S_.Idx, j = fun b => b.elim0 := fun j => funext fun b => b.elim0
  have h := fun j : S_.Idx => congrArg (Host.reduce FloatOps.maximumf (Host.absf (yAll A B)) (constant S_ .f32 0xFF800000#32)
    Cert.ReferenceIdeal.Gen.reducesTo_S4096x2048_S_d0_1 Cert.ReferenceIdeal.Gen.h_S_ : FVec Ideal S_ .f32) (hj j)
  unfold refMax
  rw [← h]
  rfl

/-- Every device finds the reference's largest absolute value. -/
theorem kMax_eq (c : Dev nD) : kMax (amAll (F := Ideal) (XA A) (WB B) c) = refMax A B := by
  refine eq_of_forall_ge_iff fun u => ?_
  rw [kMax_le, show refMax A B ≤ u ↔ ∀ i, ab (yAll A B i) ≤ u from refMax_le _ _ u]
  simp only [amAll_le]
  constructor
  · intro h i
    have h' := h (ix2 0 0)
    obtain ⟨a, b, rfl⟩ := ix2_all i
    obtain ⟨d, r, rfl⟩ := at16_surj a
    have hd := h' d (laneOf b.val) (ix2 r ⟨b.val % 512, Nat.mod_lt _ (by decide)⟩)
    rw [acc_eq, colAt_laneOf] at hd
    exact hd
  · intro h _ d ℓ j
    obtain ⟨r, q, rfl⟩ := ix2_all j
    rw [acc_eq]
    exact h _

/-- Where a device's row lies in the whole. -/
theorem row_idx (h : Layout.Tiles ⟨2, ![256, 2048]⟩ ⟨2, ![4096, 2048]⟩ 0 16) (c : Fin 16) (r : Fin 256) (b : Fin 2048) :
    h.idx c (ix2 r b) = ix2 (at16 c r) b := by
  funext a; apply Fin.ext
  match a with
  | ⟨0, _⟩ => rfl
  | ⟨1, _⟩ => rfl

/-- A device's result is its block of the reference's. -/
theorem outF_eq (c : Dev nD) :
    outF (F := Ideal) (XA A) (WB B) c = Layout.block ⟨2, ![256, 2048]⟩ ⟨2, ![4096, 2048]⟩ 0 16 c (refOut A B) := by
  funext i
  obtain ⟨r, b, rfl⟩ := ix2_all i
  rw [Layout.block_apply, row_idx]
  refine (pay1_apply (amAll (F := Ideal) (XA A) (WB B) c) (outY (F := Ideal) (XA A) (WB B) c) (ix2 r b)).trans ?_
  rw [kMax_eq, outY_eq]
  exact (refOut_apply A B (ix2 (at16 c r) b)).symm

/-- Over the reals every device ends with its block of the reference's result. -/
theorem value : Cert.algebraic_KernelIdeal_ReferenceIdeal := by
  intro m g m' g' _ hin
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, h.1.1 c⟩) (run_kernel (F := Ideal) m g)
    refine (h.2 c).trans ?_
    rw [show (fun d : Dev nD => m ((d : Thread nD τ).loc main_arg0)) = XA _ from funext fun d => (hin d).1,
      show (fun d : Dev nD => m ((d : Thread nD τ).loc main_arg1)) = WB _ from funext fun d => (hin d).2]
    exact outF_eq _ _ c
  · exact (θ_run Cert.ReferenceIdeal.defs _ _).mono (fun r h => h 0) (Cert.ReferenceIdeal.Value.run (F := Ideal) m' g')

end Cert.KernelIdeal.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.SL.Sem

set_option maxRecDepth 100000 in
/-- The two readings of the kernel have one table of bodies. -/
theorem defs_same : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀) (Val := Elt Bits)) ?_
  funext l x
  fin_cases l
  rfl

set_option maxRecDepth 100000 in
/-- The kernel runs over bits: its text is the one the run is proved of. -/
theorem frame_kernel : Cert.quiescent_Kernel := fun m ρ _ => by
  unfold Cert.Kernel.defs
  rw [defs_same]
  exact (θ_run Cert.KernelIdeal.defs _ _).mono (fun _ h => h.1) (Cert.KernelIdeal.Ring.run_kernel (F := Bits) m ρ)

/-- And over the reals. -/
theorem frame_ideal : Cert.quiescent_KernelIdeal := fun m ρ _ =>
  (θ_run Cert.KernelIdeal.defs _ _).mono (fun _ h => h.1) (Cert.KernelIdeal.Ring.run_kernel (F := Ideal) m ρ)

/-- The reference runs: its operations write no argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All the claims. -/
theorem claim : Cert.Claim := ⟨Cert.Kernel.Gen.facts, Cert.KernelIdeal.Gen.facts, Cert.ReferenceIdeal.Gen.facts,
  frame_kernel, frame_ideal, frame_reference, trivial, Cert.KernelIdeal.Ring.value⟩

end Cert.Proof

end
